-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v517) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x1024 : Shape := ⟨2, ![2048, 1024]⟩
abbrev S2048 : Shape := ⟨1, ![2048]⟩
abbrev S2048x2 : Shape := ⟨2, ![2048, 2]⟩
abbrev S4x2048x1024 : Shape := ⟨3, ![4, 2048, 1024]⟩
abbrev S4x1024x1024 : Shape := ⟨3, ![4, 1024, 1024]⟩
abbrev S4x1024 : Shape := ⟨2, ![4, 1024]⟩
abbrev S768x1024 : Shape := ⟨2, ![768, 1024]⟩
abbrev S768 : Shape := ⟨1, ![768]⟩
abbrev S4x768x1024 : Shape := ⟨3, ![4, 768, 1024]⟩
abbrev S4x768 : Shape := ⟨2, ![4, 768]⟩
abbrev S_ : Shape := ⟨0, ![]⟩

class Facts : Prop where
  bcast_S_S4x2048x1024 : S_.BroadcastsInDim S4x2048x1024 (![] : Fin 0 → Fin S4x2048x1024.rank)
  bcast_S_S4x1024x1024 : S_.BroadcastsInDim S4x1024x1024 (![] : Fin 0 → Fin S4x1024x1024.rank)
  bcast_S_S4x1024 : S_.BroadcastsInDim S4x1024 (![] : Fin 0 → Fin S4x1024.rank)
  bcast_S_S4x768x1024 : S_.BroadcastsInDim S4x768x1024 (![] : Fin 0 → Fin S4x768x1024.rank)
  bcast_S_S4x768 : S_.BroadcastsInDim S4x768 (![] : Fin 0 → Fin S4x768.rank)

variable [Facts]

def fn {F : FTy → Type} [FloatOps F] (main_arg0 : FVec F S2048x1024 .f32) (main_arg1 : IVec S2048 32) (main_arg2 : FVec F S2048x2 .f32) (main_arg3 : IVec S2048x2 32) (main_arg4 : FVec F S4x2048x1024 .f32) (main_arg5 : FVec F S4x1024x1024 .f32) (main_arg6 : FVec F S4x1024 .f32) (main_arg7 : FVec F S768x1024 .f32) (main_arg8 : FVec F S768 .f32) (main_arg9 : FVec F S4x768x1024 .f32) (main_arg10 : FVec F S4x768 .f32) (main_arg11 : FVec F S768 .f32) : IVec S4x2048x1024 1 × IVec S4x1024x1024 1 × IVec S4x1024 1 × IVec S4x768x1024 1 × IVec S4x768 1 :=
  let main_v0 : FVec F S4x2048x1024 .f32 := Host.absf main_arg4
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x1024x1024 .f32 := Host.absf main_arg5
  let main_cst_0 : FVec F S_ .f32 := constant S_ .f32 0x7F800000#32
  let main_v4 : FVec F S4x1024x1024 .f32 := broadcastInDim S4x1024x1024 ![] bcast_S_S4x1024x1024 main_cst_0
  let main_v5 : IVec S4x1024x1024 1 := cmpf .olt main_v3 main_v4
  let main_v6 : FVec F S4x1024 .f32 := Host.absf main_arg6
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S4x768x1024 .f32 := Host.absf main_arg9
  let main_cst_2 : FVec F S_ .f32 := constant S_ .f32 0x7F800000#32
  let main_v10 : FVec F S4x768x1024 .f32 := broadcastInDim S4x768x1024 ![] bcast_S_S4x768x1024 main_cst_2
  let main_v11 : IVec S4x768x1024 1 := cmpf .olt main_v9 main_v10
  let main_v12 : FVec F S4x768 .f32 := Host.absf main_arg10
  let main_cst_3 : FVec F S_ .f32 := constant S_ .f32 0x7F800000#32
  let main_v13 : FVec F S4x768 .f32 := broadcastInDim S4x768 ![] bcast_S_S4x768 main_cst_3
  let main_v14 : IVec S4x768 1 := cmpf .olt main_v12 main_v13
  (main_v2, main_v5, main_v8, main_v11, main_v14)
-- ==== Kernel.lean ====
abbrev S2048x1024 : Shape := ⟨2, ![2048, 1024]⟩
abbrev S2048 : Shape := ⟨1, ![2048]⟩
abbrev S2048x2 : Shape := ⟨2, ![2048, 2]⟩
abbrev S4x2048x1024 : Shape := ⟨3, ![4, 2048, 1024]⟩
abbrev S4x1024x1024 : Shape := ⟨3, ![4, 1024, 1024]⟩
abbrev S4x1024 : Shape := ⟨2, ![4, 1024]⟩
abbrev S768x1024 : Shape := ⟨2, ![768, 1024]⟩
abbrev S768 : Shape := ⟨1, ![768]⟩
abbrev S4x768x1024 : Shape := ⟨3, ![4, 768, 1024]⟩
abbrev S4x768 : Shape := ⟨2, ![4, 768]⟩
abbrev S2x2048 : Shape := ⟨2, ![2, 2048]⟩
abbrev S1x768 : Shape := ⟨2, ![1, 768]⟩
abbrev S2048x768 : Shape := ⟨2, ![2048, 768]⟩
abbrev S4x256x1024 : Shape := ⟨3, ![4, 256, 1024]⟩
abbrev S256x768 : Shape := ⟨2, ![256, 768]⟩
abbrev S1024x2560 : Shape := ⟨2, ![1024, 2560]⟩
abbrev S768x2560 : Shape := ⟨2, ![768, 2560]⟩
abbrev S1x1024x128 : Shape := ⟨3, ![1, 1024, 128]⟩
abbrev S1024x128 : Shape := ⟨2, ![1024, 128]⟩
abbrev S1x768x128 : Shape := ⟨3, ![1, 768, 128]⟩
abbrev S768x128 : Shape := ⟨2, ![768, 128]⟩
abbrev S1x1024x256 : Shape := ⟨3, ![1, 1024, 256]⟩
abbrev S1024x256 : Shape := ⟨2, ![1024, 256]⟩
abbrev S1x768x256 : Shape := ⟨3, ![1, 768, 256]⟩
abbrev S768x256 : Shape := ⟨2, ![768, 256]⟩
abbrev S1x1024x384 : Shape := ⟨3, ![1, 1024, 384]⟩
abbrev S1024x384 : Shape := ⟨2, ![1024, 384]⟩
abbrev S1x768x384 : Shape := ⟨3, ![1, 768, 384]⟩
abbrev S768x384 : Shape := ⟨2, ![768, 384]⟩
abbrev S1x1024x512 : Shape := ⟨3, ![1, 1024, 512]⟩
abbrev S1024x512 : Shape := ⟨2, ![1024, 512]⟩
abbrev S1x768x512 : Shape := ⟨3, ![1, 768, 512]⟩
abbrev S768x512 : Shape := ⟨2, ![768, 512]⟩
abbrev S2x256 : Shape := ⟨2, ![2, 256]⟩
abbrev S256 : Shape := ⟨1, ![256]⟩
abbrev S1x256 : Shape := ⟨2, ![1, 256]⟩
abbrev S256x1024 : Shape := ⟨2, ![256, 1024]⟩
abbrev S256x1 : Shape := ⟨2, ![256, 1]⟩
abbrev S1x256x1024 : Shape := ⟨3, ![1, 256, 1024]⟩
abbrev S256x128 : Shape := ⟨2, ![256, 128]⟩
abbrev S256x256 : Shape := ⟨2, ![256, 256]⟩
abbrev S256x384 : Shape := ⟨2, ![256, 384]⟩
abbrev S256x512 : Shape := ⟨2, ![256, 512]⟩
abbrev S256x4 : Shape := ⟨2, ![256, 4]⟩

abbrev nBuf : Space → Nat
  | .hbm => 18
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S2048x2, .f32⟩
  | .hbm, ⟨3, _⟩ => ⟨S2048x2, .i32⟩
  | .hbm, ⟨4, _⟩ => ⟨S4x2048x1024, .f32⟩
  | .hbm, ⟨5, _⟩ => ⟨S4x1024x1024, .f32⟩
  | .hbm, ⟨6, _⟩ => ⟨S4x1024, .f32⟩
  | .hbm, ⟨7, _⟩ => ⟨S768x1024, .f32⟩
  | .hbm, ⟨8, _⟩ => ⟨S768, .f32⟩
  | .hbm, ⟨9, _⟩ => ⟨S4x768x1024, .f32⟩
  | .hbm, ⟨10, _⟩ => ⟨S4x768, .f32⟩
  | .hbm, ⟨11, _⟩ => ⟨S768, .f32⟩
  | .hbm, ⟨12, _⟩ => ⟨S2x2048, .f32⟩
  | .hbm, ⟨13, _⟩ => ⟨S2x2048, .i32⟩
  | .hbm, ⟨14, _⟩ => ⟨S768x1024, .bf16⟩
  | .hbm, ⟨15, _⟩ => ⟨S1x768, .f32⟩
  | .hbm, ⟨16, _⟩ => ⟨S1x768, .f32⟩
  | .hbm, ⟨17, _⟩ => ⟨S2048x768, .f32⟩
  | .local _ .vmem, ⟨0, _⟩ => ⟨S2x2048, .f32⟩
  | .local _ .vmem, ⟨1, _⟩ => ⟨S2x2048, .i32⟩
  | .local _ .vmem, ⟨2, _⟩ => ⟨S4x256x1024, .f32⟩
  | .local _ .vmem, ⟨3, _⟩ => ⟨S4x256x1024, .f32⟩
  | .local _ .vmem, ⟨4, _⟩ => ⟨S4x1024x1024, .f32⟩
  | .local _ .vmem, ⟨5, _⟩ => ⟨S4x768x1024, .f32⟩
  | .local _ .vmem, ⟨6, _⟩ => ⟨S4x1024, .f32⟩
  | .local _ .vmem, ⟨7, _⟩ => ⟨S768x1024, .bf16⟩
  | .local _ .vmem, ⟨8, _⟩ => ⟨S1x768, .f32⟩
  | .local _ .vmem, ⟨9, _⟩ => ⟨S4x768, .f32⟩
  | .local _ .vmem, ⟨10, _⟩ => ⟨S1x768, .f32⟩
  | .local _ .vmem, ⟨11, _⟩ => ⟨S256x768, .f32⟩
  | .local _ .vmem, ⟨12, _⟩ => ⟨S256x768, .f32⟩
  | .local _ .vmem, ⟨13, _⟩ => ⟨S1024x2560, .bf16⟩
  | .local _ .vmem, ⟨14, _⟩ => ⟨S768x2560, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let c256_i32 : BitVec 32 := 256#32
  let v3 : BitVec 32 := Scalar.muli arg0 c256_i32
  let v4 : Index := Scalar.indexCast v3
  ![0, v4.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2048x1024 : Shape := ⟨2, ![2048, 1024]⟩
abbrev S2048 : Shape := ⟨1, ![2048]⟩
abbrev S2048x2 : Shape := ⟨2, ![2048, 2]⟩
abbrev S4x2048x1024 : Shape := ⟨3, ![4, 2048, 1024]⟩
abbrev S4x1024x1024 : Shape := ⟨3, ![4, 1024, 1024]⟩
abbrev S4x1024 : Shape := ⟨2, ![4, 1024]⟩
abbrev S768x1024 : Shape := ⟨2, ![768, 1024]⟩
abbrev S768 : Shape := ⟨1, ![768]⟩
abbrev S4x768x1024 : Shape := ⟨3, ![4, 768, 1024]⟩
abbrev S4x768 : Shape := ⟨2, ![4, 768]⟩
abbrev S_ : Shape := ⟨0, ![]⟩
abbrev S512 : Shape := ⟨1, ![512]⟩
abbrev S1024 : Shape := ⟨1, ![1024]⟩
abbrev S2048x1 : Shape := ⟨2, ![2048, 1]⟩
abbrev S1x1024x1024 : Shape := ⟨3, ![1, 1024, 1024]⟩
abbrev S1024x1024 : Shape := ⟨2, ![1024, 1024]⟩
abbrev S1x1024 : Shape := ⟨2, ![1, 1024]⟩
abbrev S1x2048x1024 : Shape := ⟨3, ![1, 2048, 1024]⟩
abbrev S1024x768 : Shape := ⟨2, ![1024, 768]⟩
abbrev S2048x768 : Shape := ⟨2, ![2048, 768]⟩
abbrev S1x768 : Shape := ⟨2, ![1, 768]⟩
abbrev S1x768x1024 : Shape := ⟨3, ![1, 768, 1024]⟩

abbrev nBuf : Space → Nat
  | .hbm => 687
  | .vmem => 0
  | .smem => 0
  | _ => 0

abbrev hbmTy0_0 (i : Nat) : BufTy := match i % 128 with
  | 0 => ⟨S2048x1024, .f32⟩
  | 1 => ⟨S2048, .i32⟩
  | 2 => ⟨S2048x2, .f32⟩
  | 3 => ⟨S2048x2, .i32⟩
  | 4 => ⟨S4x2048x1024, .f32⟩
  | 5 => ⟨S4x1024x1024, .f32⟩
  | 6 => ⟨S4x1024, .f32⟩
  | 7 => ⟨S768x1024, .f32⟩
  | 8 => ⟨S768, .f32⟩
  | 9 => ⟨S4x768x1024, .f32⟩
  | 10 => ⟨S4x768, .f32⟩
  | 11 => ⟨S768, .f32⟩
  | 12 => ⟨S_, .f32⟩
  | 13 => ⟨S4x2048x1024, .i1⟩
  | 14 => ⟨S_, .f32⟩
  | 15 => ⟨S4x2048x1024, .f32⟩
  | 16 => ⟨S4x2048x1024, .f32⟩
  | 17 => ⟨S_, .f32⟩
  | 18 => ⟨S4x2048x1024, .f32⟩
  | 19 => ⟨S4x2048x1024, .i1⟩
  | 20 => ⟨S_, .f32⟩
  | 21 => ⟨S4x2048x1024, .f32⟩
  | 22 => ⟨S4x2048x1024, .f32⟩
  | 23 => ⟨S_, .f32⟩
  | 24 => ⟨S4x2048x1024, .f32⟩
  | 25 => ⟨S4x2048x1024, .i1⟩
  | 26 => ⟨S_, .f32⟩
  | 27 => ⟨S4x2048x1024, .f32⟩
  | 28 => ⟨S4x2048x1024, .f32⟩
  | 29 => ⟨S512, .i32⟩
  | 30 => ⟨S_, .i32⟩
  | 31 => ⟨S512, .i32⟩
  | 32 => ⟨S512, .i1⟩
  | 33 => ⟨S512, .f32⟩
  | 34 => ⟨S1024, .f32⟩
  | 35 => ⟨S512, .i32⟩
  | 36 => ⟨S_, .i32⟩
  | 37 => ⟨S512, .i32⟩
  | 38 => ⟨S512, .i1⟩
  | 39 => ⟨S512, .f32⟩
  | 40 => ⟨S1024, .f32⟩
  | 41 => ⟨S512, .i32⟩
  | 42 => ⟨S_, .i32⟩
  | 43 => ⟨S512, .i32⟩
  | 44 => ⟨S512, .i1⟩
  | 45 => ⟨S512, .f32⟩
  | 46 => ⟨S1024, .f32⟩
  | 47 => ⟨S512, .i32⟩
  | 48 => ⟨S_, .i32⟩
  | 49 => ⟨S512, .i32⟩
  | 50 => ⟨S512, .i1⟩
  | 51 => ⟨S512, .f32⟩
  | 52 => ⟨S1024, .f32⟩
  | 53 => ⟨S_, .i32⟩
  | 54 => ⟨S2048x2, .i32⟩
  | 55 => ⟨S2048x2, .i1⟩
  | 56 => ⟨S2048x2, .f32⟩
  | 57 => ⟨S2048x2, .f32⟩
  | 58 => ⟨S_, .f32⟩
  | 59 => ⟨S2048, .f32⟩
  | 60 => ⟨S2048x1, .f32⟩
  | 61 => ⟨S_, .f32⟩
  | 62 => ⟨S2048x1, .f32⟩
  | 63 => ⟨S2048x1, .i1⟩
  | 64 => ⟨S_, .f32⟩
  | 65 => ⟨S_, .f32⟩
  | 66 => ⟨S2048x1, .f32⟩
  | 67 => ⟨S2048x1, .f32⟩
  | 68 => ⟨S_, .f32⟩
  | 69 => ⟨S2048x1024, .f32⟩
  | 70 => ⟨S2048x1, .i32⟩
  | 71 => ⟨S2048, .i32⟩
  | 72 => ⟨S2048x1, .f32⟩
  | 73 => ⟨S2048, .f32⟩
  | 74 => ⟨S2048, .f32⟩
  | 75 => ⟨S2048, .f32⟩
  | 76 => ⟨S_, .i32⟩
  | 77 => ⟨S2048, .i32⟩
  | 78 => ⟨S2048, .i1⟩
  | 79 => ⟨S_, .i32⟩
  | 80 => ⟨S2048, .i32⟩
  | 81 => ⟨S2048, .i1⟩
  | 82 => ⟨S2048, .i1⟩
  | 83 => ⟨S1x1024x1024, .f32⟩
  | 84 => ⟨S1024x1024, .f32⟩
  | 85 => ⟨S1x1024, .f32⟩
  | 86 => ⟨S1024x1024, .f32⟩
  | 87 => ⟨S1024x1024, .f32⟩
  | 88 => ⟨S1x2048x1024, .f32⟩
  | 89 => ⟨S2048x1024, .f32⟩
  | 90 => ⟨S1024x1024, .f32⟩
  | 91 => ⟨S2048x1024, .f32⟩
  | 92 => ⟨S1x1024, .f32⟩
  | 93 => ⟨S1024, .f32⟩
  | 94 => ⟨S1x1024, .f32⟩
  | 95 => ⟨S2048x1024, .f32⟩
  | 96 => ⟨S2048x1024, .f32⟩
  | 97 => ⟨S2048x1, .i1⟩
  | 98 => ⟨S2048x1, .f32⟩
  | 99 => ⟨S2048x1024, .f32⟩
  | 100 => ⟨S2048x1024, .f32⟩
  | 101 => ⟨S_, .f32⟩
  | 102 => ⟨S_, .f32⟩
  | 103 => ⟨S2048x1024, .i1⟩
  | 104 => ⟨S2048x1024, .f32⟩
  | 105 => ⟨S2048x1024, .f32⟩
  | 106 => ⟨S2048x1024, .f32⟩
  | 107 => ⟨S_, .i32⟩
  | 108 => ⟨S2048, .i32⟩
  | 109 => ⟨S2048, .i1⟩
  | 110 => ⟨S_, .i32⟩
  | 111 => ⟨S2048, .i32⟩
  | 112 => ⟨S2048, .i1⟩
  | 113 => ⟨S2048, .i1⟩
  | 114 => ⟨S1x1024x1024, .f32⟩
  | 115 => ⟨S1024x1024, .f32⟩
  | 116 => ⟨S1x1024, .f32⟩
  | 117 => ⟨S1024x1024, .f32⟩
  | 118 => ⟨S1024x1024, .f32⟩
  | 119 => ⟨S1x2048x1024, .f32⟩
  | 120 => ⟨S2048x1024, .f32⟩
  | 121 => ⟨S1024x1024, .f32⟩
  | 122 => ⟨S2048x1024, .f32⟩
  | 123 => ⟨S1x1024, .f32⟩
  | 124 => ⟨S1024, .f32⟩
  | 125 => ⟨S1x1024, .f32⟩
  | 126 => ⟨S2048x1024, .f32⟩
  | 127 => ⟨S2048x1024, .f32⟩
  | _ => ⟨S2048x1024, .f32⟩

abbrev hbmTy0_1 (i : Nat) : BufTy := match i % 128 with
  | 0 => ⟨S2048x1, .i1⟩
  | 1 => ⟨S2048x1, .f32⟩
  | 2 => ⟨S2048x1024, .f32⟩
  | 3 => ⟨S2048x1024, .f32⟩
  | 4 => ⟨S_, .f32⟩
  | 5 => ⟨S_, .f32⟩
  | 6 => ⟨S2048x1024, .i1⟩
  | 7 => ⟨S2048x1024, .f32⟩
  | 8 => ⟨S2048x1024, .f32⟩
  | 9 => ⟨S2048x1024, .f32⟩
  | 10 => ⟨S_, .i32⟩
  | 11 => ⟨S2048, .i32⟩
  | 12 => ⟨S2048, .i1⟩
  | 13 => ⟨S_, .i32⟩
  | 14 => ⟨S2048, .i32⟩
  | 15 => ⟨S2048, .i1⟩
  | 16 => ⟨S2048, .i1⟩
  | 17 => ⟨S1x1024x1024, .f32⟩
  | 18 => ⟨S1024x1024, .f32⟩
  | 19 => ⟨S1x1024, .f32⟩
  | 20 => ⟨S1024x1024, .f32⟩
  | 21 => ⟨S1024x1024, .f32⟩
  | 22 => ⟨S1x2048x1024, .f32⟩
  | 23 => ⟨S2048x1024, .f32⟩
  | 24 => ⟨S1024x1024, .f32⟩
  | 25 => ⟨S2048x1024, .f32⟩
  | 26 => ⟨S1x1024, .f32⟩
  | 27 => ⟨S1024, .f32⟩
  | 28 => ⟨S1x1024, .f32⟩
  | 29 => ⟨S2048x1024, .f32⟩
  | 30 => ⟨S2048x1024, .f32⟩
  | 31 => ⟨S2048x1, .i1⟩
  | 32 => ⟨S2048x1, .f32⟩
  | 33 => ⟨S2048x1024, .f32⟩
  | 34 => ⟨S2048x1024, .f32⟩
  | 35 => ⟨S_, .f32⟩
  | 36 => ⟨S_, .f32⟩
  | 37 => ⟨S2048x1024, .i1⟩
  | 38 => ⟨S2048x1024, .f32⟩
  | 39 => ⟨S2048x1024, .f32⟩
  | 40 => ⟨S2048x1024, .f32⟩
  | 41 => ⟨S_, .i32⟩
  | 42 => ⟨S2048, .i32⟩
  | 43 => ⟨S2048, .i1⟩
  | 44 => ⟨S_, .i32⟩
  | 45 => ⟨S2048, .i32⟩
  | 46 => ⟨S2048, .i1⟩
  | 47 => ⟨S2048, .i1⟩
  | 48 => ⟨S1x1024x1024, .f32⟩
  | 49 => ⟨S1024x1024, .f32⟩
  | 50 => ⟨S1x1024, .f32⟩
  | 51 => ⟨S1024x1024, .f32⟩
  | 52 => ⟨S1024x1024, .f32⟩
  | 53 => ⟨S1x2048x1024, .f32⟩
  | 54 => ⟨S2048x1024, .f32⟩
  | 55 => ⟨S1024x1024, .f32⟩
  | 56 => ⟨S2048x1024, .f32⟩
  | 57 => ⟨S1x1024, .f32⟩
  | 58 => ⟨S1024, .f32⟩
  | 59 => ⟨S1x1024, .f32⟩
  | 60 => ⟨S2048x1024, .f32⟩
  | 61 => ⟨S2048x1024, .f32⟩
  | 62 => ⟨S2048x1, .i1⟩
  | 63 => ⟨S2048x1, .f32⟩
  | 64 => ⟨S2048x1024, .f32⟩
  | 65 => ⟨S2048x1024, .f32⟩
  | 66 => ⟨S_, .f32⟩
  | 67 => ⟨S_, .f32⟩
  | 68 => ⟨S2048x1024, .i1⟩
  | 69 => ⟨S2048x1024, .f32⟩
  | 70 => ⟨S2048x1024, .f32⟩
  | 71 => ⟨S2048x1024, .f32⟩
  | 72 => ⟨S2048x1, .i32⟩
  | 73 => ⟨S2048, .i32⟩
  | 74 => ⟨S2048x1, .f32⟩
  | 75 => ⟨S2048, .f32⟩
  | 76 => ⟨S2048, .f32⟩
  | 77 => ⟨S2048, .f32⟩
  | 78 => ⟨S_, .i32⟩
  | 79 => ⟨S2048, .i32⟩
  | 80 => ⟨S2048, .i1⟩
  | 81 => ⟨S_, .i32⟩
  | 82 => ⟨S2048, .i32⟩
  | 83 => ⟨S2048, .i1⟩
  | 84 => ⟨S2048, .i1⟩
  | 85 => ⟨S1x1024x1024, .f32⟩
  | 86 => ⟨S1024x1024, .f32⟩
  | 87 => ⟨S1x1024, .f32⟩
  | 88 => ⟨S1024x1024, .f32⟩
  | 89 => ⟨S1024x1024, .f32⟩
  | 90 => ⟨S1x2048x1024, .f32⟩
  | 91 => ⟨S2048x1024, .f32⟩
  | 92 => ⟨S1024x1024, .f32⟩
  | 93 => ⟨S2048x1024, .f32⟩
  | 94 => ⟨S1x1024, .f32⟩
  | 95 => ⟨S1024, .f32⟩
  | 96 => ⟨S1x1024, .f32⟩
  | 97 => ⟨S2048x1024, .f32⟩
  | 98 => ⟨S2048x1024, .f32⟩
  | 99 => ⟨S2048x1, .i1⟩
  | 100 => ⟨S2048x1, .f32⟩
  | 101 => ⟨S2048x1024, .f32⟩
  | 102 => ⟨S2048x1024, .f32⟩
  | 103 => ⟨S_, .f32⟩
  | 104 => ⟨S_, .f32⟩
  | 105 => ⟨S2048x1024, .i1⟩
  | 106 => ⟨S2048x1024, .f32⟩
  | 107 => ⟨S2048x1024, .f32⟩
  | 108 => ⟨S2048x1024, .f32⟩
  | 109 => ⟨S_, .i32⟩
  | 110 => ⟨S2048, .i32⟩
  | 111 => ⟨S2048, .i1⟩
  | 112 => ⟨S_, .i32⟩
  | 113 => ⟨S2048, .i32⟩
  | 114 => ⟨S2048, .i1⟩
  | 115 => ⟨S2048, .i1⟩
  | 116 => ⟨S1x1024x1024, .f32⟩
  | 117 => ⟨S1024x1024, .f32⟩
  | 118 => ⟨S1x1024, .f32⟩
  | 119 => ⟨S1024x1024, .f32⟩
  | 120 => ⟨S1024x1024, .f32⟩
  | 121 => ⟨S1x2048x1024, .f32⟩
  | 122 => ⟨S2048x1024, .f32⟩
  | 123 => ⟨S1024x1024, .f32⟩
  | 124 => ⟨S2048x1024, .f32⟩
  | 125 => ⟨S1x1024, .f32⟩
  | 126 => ⟨S1024, .f32⟩
  | 127 => ⟨S1x1024, .f32⟩
  | _ => ⟨S2048x1024, .f32⟩

abbrev hbmTy0_2 (i : Nat) : BufTy := match i % 128 with
  | 0 => ⟨S2048x1024, .f32⟩
  | 1 => ⟨S2048x1024, .f32⟩
  | 2 => ⟨S2048x1, .i1⟩
  | 3 => ⟨S2048x1, .f32⟩
  | 4 => ⟨S2048x1024, .f32⟩
  | 5 => ⟨S2048x1024, .f32⟩
  | 6 => ⟨S_, .f32⟩
  | 7 => ⟨S_, .f32⟩
  | 8 => ⟨S2048x1024, .i1⟩
  | 9 => ⟨S2048x1024, .f32⟩
  | 10 => ⟨S2048x1024, .f32⟩
  | 11 => ⟨S2048x1024, .f32⟩
  | 12 => ⟨S_, .i32⟩
  | 13 => ⟨S2048, .i32⟩
  | 14 => ⟨S2048, .i1⟩
  | 15 => ⟨S_, .i32⟩
  | 16 => ⟨S2048, .i32⟩
  | 17 => ⟨S2048, .i1⟩
  | 18 => ⟨S2048, .i1⟩
  | 19 => ⟨S1x1024x1024, .f32⟩
  | 20 => ⟨S1024x1024, .f32⟩
  | 21 => ⟨S1x1024, .f32⟩
  | 22 => ⟨S1024x1024, .f32⟩
  | 23 => ⟨S1024x1024, .f32⟩
  | 24 => ⟨S1x2048x1024, .f32⟩
  | 25 => ⟨S2048x1024, .f32⟩
  | 26 => ⟨S1024x1024, .f32⟩
  | 27 => ⟨S2048x1024, .f32⟩
  | 28 => ⟨S1x1024, .f32⟩
  | 29 => ⟨S1024, .f32⟩
  | 30 => ⟨S1x1024, .f32⟩
  | 31 => ⟨S2048x1024, .f32⟩
  | 32 => ⟨S2048x1024, .f32⟩
  | 33 => ⟨S2048x1, .i1⟩
  | 34 => ⟨S2048x1, .f32⟩
  | 35 => ⟨S2048x1024, .f32⟩
  | 36 => ⟨S2048x1024, .f32⟩
  | 37 => ⟨S_, .f32⟩
  | 38 => ⟨S_, .f32⟩
  | 39 => ⟨S2048x1024, .i1⟩
  | 40 => ⟨S2048x1024, .f32⟩
  | 41 => ⟨S2048x1024, .f32⟩
  | 42 => ⟨S2048x1024, .f32⟩
  | 43 => ⟨S_, .i32⟩
  | 44 => ⟨S2048, .i32⟩
  | 45 => ⟨S2048, .i1⟩
  | 46 => ⟨S_, .i32⟩
  | 47 => ⟨S2048, .i32⟩
  | 48 => ⟨S2048, .i1⟩
  | 49 => ⟨S2048, .i1⟩
  | 50 => ⟨S1x1024x1024, .f32⟩
  | 51 => ⟨S1024x1024, .f32⟩
  | 52 => ⟨S1x1024, .f32⟩
  | 53 => ⟨S1024x1024, .f32⟩
  | 54 => ⟨S1024x1024, .f32⟩
  | 55 => ⟨S1x2048x1024, .f32⟩
  | 56 => ⟨S2048x1024, .f32⟩
  | 57 => ⟨S1024x1024, .f32⟩
  | 58 => ⟨S2048x1024, .f32⟩
  | 59 => ⟨S1x1024, .f32⟩
  | 60 => ⟨S1024, .f32⟩
  | 61 => ⟨S1x1024, .f32⟩
  | 62 => ⟨S2048x1024, .f32⟩
  | 63 => ⟨S2048x1024, .f32⟩
  | 64 => ⟨S2048x1, .i1⟩
  | 65 => ⟨S2048x1, .f32⟩
  | 66 => ⟨S2048x1024, .f32⟩
  | 67 => ⟨S2048x1024, .f32⟩
  | 68 => ⟨S_, .f32⟩
  | 69 => ⟨S_, .f32⟩
  | 70 => ⟨S2048x1024, .i1⟩
  | 71 => ⟨S2048x1024, .f32⟩
  | 72 => ⟨S2048x1024, .f32⟩
  | 73 => ⟨S2048x1024, .f32⟩
  | 74 => ⟨S2048x1024, .f32⟩
  | 75 => ⟨S2048x1024, .f32⟩
  | 76 => ⟨S_, .f32⟩
  | 77 => ⟨S2048x1024, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S2048x1024, .f32⟩
  | 91 => ⟨S1024x768, .f32⟩
  | 92 => ⟨S2048x768, .f32⟩
  | 93 => ⟨S1x768, .f32⟩
  | 94 => ⟨S2048x768, .f32⟩
  | 95 => ⟨S2048x768, .f32⟩
  | 96 => ⟨S_, .f32⟩
  | 97 => ⟨S4x2048x1024, .i1⟩
  | 98 => ⟨S_, .f32⟩
  | 99 => ⟨S4x2048x1024, .f32⟩
  | 100 => ⟨S4x2048x1024, .f32⟩
  | 101 => ⟨S_, .f32⟩
  | 102 => ⟨S4x2048x1024, .f32⟩
  | 103 => ⟨S4x2048x1024, .i1⟩
  | 104 => ⟨S_, .f32⟩
  | 105 => ⟨S4x2048x1024, .f32⟩
  | 106 => ⟨S4x2048x1024, .f32⟩
  | 107 => ⟨S_, .f32⟩
  | 108 => ⟨S4x2048x1024, .f32⟩
  | 109 => ⟨S4x2048x1024, .i1⟩
  | 110 => ⟨S_, .f32⟩
  | 111 => ⟨S4x2048x1024, .f32⟩
  | 112 => ⟨S4x2048x1024, .f32⟩
  | 113 => ⟨S512, .i32⟩
  | 114 => ⟨S_, .i32⟩
  | 115 => ⟨S512, .i32⟩
  | 116 => ⟨S512, .i1⟩
  | 117 => ⟨S512, .f32⟩
  | 118 => ⟨S1024, .f32⟩
  | 119 => ⟨S512, .i32⟩
  | 120 => ⟨S_, .i32⟩
  | 121 => ⟨S512, .i32⟩
  | 122 => ⟨S512, .i1⟩
  | 123 => ⟨S512, .f32⟩
  | 124 => ⟨S1024, .f32⟩
  | 125 => ⟨S512, .i32⟩
  | 126 => ⟨S_, .i32⟩
  | 127 => ⟨S512, .i32⟩
  | _ => ⟨S2048x1024, .f32⟩

abbrev hbmTy0_3 (i : Nat) : BufTy := match i % 128 with
  | 0 => ⟨S512, .i1⟩
  | 1 => ⟨S512, .f32⟩
  | 2 => ⟨S1024, .f32⟩
  | 3 => ⟨S512, .i32⟩
  | 4 => ⟨S_, .i32⟩
  | 5 => ⟨S512, .i32⟩
  | 6 => ⟨S512, .i1⟩
  | 7 => ⟨S512, .f32⟩
  | 8 => ⟨S1024, .f32⟩
  | 9 => ⟨S_, .i32⟩
  | 10 => ⟨S2048x2, .i32⟩
  | 11 => ⟨S2048x2, .i1⟩
  | 12 => ⟨S2048x2, .f32⟩
  | 13 => ⟨S2048x2, .f32⟩
  | 14 => ⟨S_, .f32⟩
  | 15 => ⟨S2048, .f32⟩
  | 16 => ⟨S2048x1, .f32⟩
  | 17 => ⟨S_, .f32⟩
  | 18 => ⟨S2048x1, .f32⟩
  | 19 => ⟨S2048x1, .i1⟩
  | 20 => ⟨S_, .f32⟩
  | 21 => ⟨S_, .f32⟩
  | 22 => ⟨S2048x1, .f32⟩
  | 23 => ⟨S2048x1, .f32⟩
  | 24 => ⟨S_, .f32⟩
  | 25 => ⟨S2048x768, .f32⟩
  | 26 => ⟨S2048x1, .i32⟩
  | 27 => ⟨S2048, .i32⟩
  | 28 => ⟨S2048x1, .f32⟩
  | 29 => ⟨S2048, .f32⟩
  | 30 => ⟨S2048, .f32⟩
  | 31 => ⟨S2048, .f32⟩
  | 32 => ⟨S_, .i32⟩
  | 33 => ⟨S2048, .i32⟩
  | 34 => ⟨S2048, .i1⟩
  | 35 => ⟨S_, .i32⟩
  | 36 => ⟨S2048, .i32⟩
  | 37 => ⟨S2048, .i1⟩
  | 38 => ⟨S2048, .i1⟩
  | 39 => ⟨S1x768x1024, .f32⟩
  | 40 => ⟨S768x1024, .f32⟩
  | 41 => ⟨S1x1024, .f32⟩
  | 42 => ⟨S768x1024, .f32⟩
  | 43 => ⟨S768x1024, .f32⟩
  | 44 => ⟨S1x2048x1024, .f32⟩
  | 45 => ⟨S2048x1024, .f32⟩
  | 46 => ⟨S1024x768, .f32⟩
  | 47 => ⟨S2048x768, .f32⟩
  | 48 => ⟨S1x768, .f32⟩
  | 49 => ⟨S768, .f32⟩
  | 50 => ⟨S1x768, .f32⟩
  | 51 => ⟨S2048x768, .f32⟩
  | 52 => ⟨S2048x768, .f32⟩
  | 53 => ⟨S2048x1, .i1⟩
  | 54 => ⟨S2048x1, .f32⟩
  | 55 => ⟨S2048x768, .f32⟩
  | 56 => ⟨S2048x768, .f32⟩
  | 57 => ⟨S_, .f32⟩
  | 58 => ⟨S_, .f32⟩
  | 59 => ⟨S2048x768, .i1⟩
  | 60 => ⟨S2048x768, .f32⟩
  | 61 => ⟨S2048x768, .f32⟩
  | 62 => ⟨S2048x768, .f32⟩
  | 63 => ⟨S_, .i32⟩
  | 64 => ⟨S2048, .i32⟩
  | 65 => ⟨S2048, .i1⟩
  | 66 => ⟨S_, .i32⟩
  | 67 => ⟨S2048, .i32⟩
  | 68 => ⟨S2048, .i1⟩
  | 69 => ⟨S2048, .i1⟩
  | 70 => ⟨S1x768x1024, .f32⟩
  | 71 => ⟨S768x1024, .f32⟩
  | 72 => ⟨S1x1024, .f32⟩
  | 73 => ⟨S768x1024, .f32⟩
  | 74 => ⟨S768x1024, .f32⟩
  | 75 => ⟨S1x2048x1024, .f32⟩
  | 76 => ⟨S2048x1024, .f32⟩
  | 77 => ⟨S1024x768, .f32⟩
  | 78 => ⟨S2048x768, .f32⟩
  | 79 => ⟨S1x768, .f32⟩
  | 80 => ⟨S768, .f32⟩
  | 81 => ⟨S1x768, .f32⟩
  | 82 => ⟨S2048x768, .f32⟩
  | 83 => ⟨S2048x768, .f32⟩
  | 84 => ⟨S2048x1, .i1⟩
  | 85 => ⟨S2048x1, .f32⟩
  | 86 => ⟨S2048x768, .f32⟩
  | 87 => ⟨S2048x768, .f32⟩
  | 88 => ⟨S_, .f32⟩
  | 89 => ⟨S_, .f32⟩
  | 90 => ⟨S2048x768, .i1⟩
  | 91 => ⟨S2048x768, .f32⟩
  | 92 => ⟨S2048x768, .f32⟩
  | 93 => ⟨S2048x768, .f32⟩
  | 94 => ⟨S_, .i32⟩
  | 95 => ⟨S2048, .i32⟩
  | 96 => ⟨S2048, .i1⟩
  | 97 => ⟨S_, .i32⟩
  | 98 => ⟨S2048, .i32⟩
  | 99 => ⟨S2048, .i1⟩
  | 100 => ⟨S2048, .i1⟩
  | 101 => ⟨S1x768x1024, .f32⟩
  | 102 => ⟨S768x1024, .f32⟩
  | 103 => ⟨S1x1024, .f32⟩
  | 104 => ⟨S768x1024, .f32⟩
  | 105 => ⟨S768x1024, .f32⟩
  | 106 => ⟨S1x2048x1024, .f32⟩
  | 107 => ⟨S2048x1024, .f32⟩
  | 108 => ⟨S1024x768, .f32⟩
  | 109 => ⟨S2048x768, .f32⟩
  | 110 => ⟨S1x768, .f32⟩
  | 111 => ⟨S768, .f32⟩
  | 112 => ⟨S1x768, .f32⟩
  | 113 => ⟨S2048x768, .f32⟩
  | 114 => ⟨S2048x768, .f32⟩
  | 115 => ⟨S2048x1, .i1⟩
  | 116 => ⟨S2048x1, .f32⟩
  | 117 => ⟨S2048x768, .f32⟩
  | 118 => ⟨S2048x768, .f32⟩
  | 119 => ⟨S_, .f32⟩
  | 120 => ⟨S_, .f32⟩
  | 121 => ⟨S2048x768, .i1⟩
  | 122 => ⟨S2048x768, .f32⟩
  | 123 => ⟨S2048x768, .f32⟩
  | 124 => ⟨S2048x768, .f32⟩
  | 125 => ⟨S_, .i32⟩
  | 126 => ⟨S2048, .i32⟩
  | 127 => ⟨S2048, .i1⟩
  | _ => ⟨S2048x1024, .f32⟩

abbrev hbmTy0_4 (i : Nat) : BufTy := match i % 128 with
  | 0 => ⟨S_, .i32⟩
  | 1 => ⟨S2048, .i32⟩
  | 2 => ⟨S2048, .i1⟩
  | 3 => ⟨S2048, .i1⟩
  | 4 => ⟨S1x768x1024, .f32⟩
  | 5 => ⟨S768x1024, .f32⟩
  | 6 => ⟨S1x1024, .f32⟩
  | 7 => ⟨S768x1024, .f32⟩
  | 8 => ⟨S768x1024, .f32⟩
  | 9 => ⟨S1x2048x1024, .f32⟩
  | 10 => ⟨S2048x1024, .f32⟩
  | 11 => ⟨S1024x768, .f32⟩
  | 12 => ⟨S2048x768, .f32⟩
  | 13 => ⟨S1x768, .f32⟩
  | 14 => ⟨S768, .f32⟩
  | 15 => ⟨S1x768, .f32⟩
  | 16 => ⟨S2048x768, .f32⟩
  | 17 => ⟨S2048x768, .f32⟩
  | 18 => ⟨S2048x1, .i1⟩
  | 19 => ⟨S2048x1, .f32⟩
  | 20 => ⟨S2048x768, .f32⟩
  | 21 => ⟨S2048x768, .f32⟩
  | 22 => ⟨S_, .f32⟩
  | 23 => ⟨S_, .f32⟩
  | 24 => ⟨S2048x768, .i1⟩
  | 25 => ⟨S2048x768, .f32⟩
  | 26 => ⟨S2048x768, .f32⟩
  | 27 => ⟨S2048x768, .f32⟩
  | 28 => ⟨S2048x1, .i32⟩
  | 29 => ⟨S2048, .i32⟩
  | 30 => ⟨S2048x1, .f32⟩
  | 31 => ⟨S2048, .f32⟩
  | 32 => ⟨S2048, .f32⟩
  | 33 => ⟨S2048, .f32⟩
  | 34 => ⟨S_, .i32⟩
  | 35 => ⟨S2048, .i32⟩
  | 36 => ⟨S2048, .i1⟩
  | 37 => ⟨S_, .i32⟩
  | 38 => ⟨S2048, .i32⟩
  | 39 => ⟨S2048, .i1⟩
  | 40 => ⟨S2048, .i1⟩
  | 41 => ⟨S1x768x1024, .f32⟩
  | 42 => ⟨S768x1024, .f32⟩
  | 43 => ⟨S1x1024, .f32⟩
  | 44 => ⟨S768x1024, .f32⟩
  | 45 => ⟨S768x1024, .f32⟩
  | 46 => ⟨S1x2048x1024, .f32⟩
  | 47 => ⟨S2048x1024, .f32⟩
  | 48 => ⟨S1024x768, .f32⟩
  | 49 => ⟨S2048x768, .f32⟩
  | 50 => ⟨S1x768, .f32⟩
  | 51 => ⟨S768, .f32⟩
  | 52 => ⟨S1x768, .f32⟩
  | 53 => ⟨S2048x768, .f32⟩
  | 54 => ⟨S2048x768, .f32⟩
  | 55 => ⟨S2048x1, .i1⟩
  | 56 => ⟨S2048x1, .f32⟩
  | 57 => ⟨S2048x768, .f32⟩
  | 58 => ⟨S2048x768, .f32⟩
  | 59 => ⟨S_, .f32⟩
  | 60 => ⟨S_, .f32⟩
  | 61 => ⟨S2048x768, .i1⟩
  | 62 => ⟨S2048x768, .f32⟩
  | 63 => ⟨S2048x768, .f32⟩
  | 64 => ⟨S2048x768, .f32⟩
  | 65 => ⟨S_, .i32⟩
  | 66 => ⟨S2048, .i32⟩
  | 67 => ⟨S2048, .i1⟩
  | 68 => ⟨S_, .i32⟩
  | 69 => ⟨S2048, .i32⟩
  | 70 => ⟨S2048, .i1⟩
  | 71 => ⟨S2048, .i1⟩
  | 72 => ⟨S1x768x1024, .f32⟩
  | 73 => ⟨S768x1024, .f32⟩
  | 74 => ⟨S1x1024, .f32⟩
  | 75 => ⟨S768x1024, .f32⟩
  | 76 => ⟨S768x1024, .f32⟩
  | 77 => ⟨S1x2048x1024, .f32⟩
  | 78 => ⟨S2048x1024, .f32⟩
  | 79 => ⟨S1024x768, .f32⟩
  | 80 => ⟨S2048x768, .f32⟩
  | 81 => ⟨S1x768, .f32⟩
  | 82 => ⟨S768, .f32⟩
  | 83 => ⟨S1x768, .f32⟩
  | 84 => ⟨S2048x768, .f32⟩
  | 85 => ⟨S2048x768, .f32⟩
  | 86 => ⟨S2048x1, .i1⟩
  | 87 => ⟨S2048x1, .f32⟩
  | 88 => ⟨S2048x768, .f32⟩
  | 89 => ⟨S2048x768, .f32⟩
  | 90 => ⟨S_, .f32⟩
  | 91 => ⟨S_, .f32⟩
  | 92 => ⟨S2048x768, .i1⟩
  | 93 => ⟨S2048x768, .f32⟩
  | 94 => ⟨S2048x768, .f32⟩
  | 95 => ⟨S2048x768, .f32⟩
  | 96 => ⟨S_, .i32⟩
  | 97 => ⟨S2048, .i32⟩
  | 98 => ⟨S2048, .i1⟩
  | 99 => ⟨S_, .i32⟩
  | 100 => ⟨S2048, .i32⟩
  | 101 => ⟨S2048, .i1⟩
  | 102 => ⟨S2048, .i1⟩
  | 103 => ⟨S1x768x1024, .f32⟩
  | 104 => ⟨S768x1024, .f32⟩
  | 105 => ⟨S1x1024, .f32⟩
  | 106 => ⟨S768x1024, .f32⟩
  | 107 => ⟨S768x1024, .f32⟩
  | 108 => ⟨S1x2048x1024, .f32⟩
  | 109 => ⟨S2048x1024, .f32⟩
  | 110 => ⟨S1024x768, .f32⟩
  | 111 => ⟨S2048x768, .f32⟩
  | 112 => ⟨S1x768, .f32⟩
  | 113 => ⟨S768, .f32⟩
  | 114 => ⟨S1x768, .f32⟩
  | 115 => ⟨S2048x768, .f32⟩
  | 116 => ⟨S2048x768, .f32⟩
  | 117 => ⟨S2048x1, .i1⟩
  | 118 => ⟨S2048x1, .f32⟩
  | 119 => ⟨S2048x768, .f32⟩
  | 120 => ⟨S2048x768, .f32⟩
  | 121 => ⟨S_, .f32⟩
  | 122 => ⟨S_, .f32⟩
  | 123 => ⟨S2048x768, .i1⟩
  | 124 => ⟨S2048x768, .f32⟩
  | 125 => ⟨S2048x768, .f32⟩
  | 126 => ⟨S2048x768, .f32⟩
  | 127 => ⟨S_, .i32⟩
  | _ => ⟨S2048x1024, .f32⟩

abbrev hbmTy0_5 (i : Nat) : BufTy := match i % 128 with
  | 0 => ⟨S2048, .i32⟩
  | 1 => ⟨S2048, .i1⟩
  | 2 => ⟨S_, .i32⟩
  | 3 => ⟨S2048, .i32⟩
  | 4 => ⟨S2048, .i1⟩
  | 5 => ⟨S2048, .i1⟩
  | 6 => ⟨S1x768x1024, .f32⟩
  | 7 => ⟨S768x1024, .f32⟩
  | 8 => ⟨S1x1024, .f32⟩
  | 9 => ⟨S768x1024, .f32⟩
  | 10 => ⟨S768x1024, .f32⟩
  | 11 => ⟨S1x2048x1024, .f32⟩
  | 12 => ⟨S2048x1024, .f32⟩
  | 13 => ⟨S1024x768, .f32⟩
  | 14 => ⟨S2048x768, .f32⟩
  | 15 => ⟨S1x768, .f32⟩
  | 16 => ⟨S768, .f32⟩
  | 17 => ⟨S1x768, .f32⟩
  | 18 => ⟨S2048x768, .f32⟩
  | 19 => ⟨S2048x768, .f32⟩
  | 20 => ⟨S2048x1, .i1⟩
  | 21 => ⟨S2048x1, .f32⟩
  | 22 => ⟨S2048x768, .f32⟩
  | 23 => ⟨S2048x768, .f32⟩
  | 24 => ⟨S_, .f32⟩
  | 25 => ⟨S_, .f32⟩
  | 26 => ⟨S2048x768, .i1⟩
  | 27 => ⟨S2048x768, .f32⟩
  | 28 => ⟨S2048x768, .f32⟩
  | 29 => ⟨S2048x768, .f32⟩
  | 30 => ⟨S2048x768, .f32⟩
  | 31 => ⟨S2048x768, .f32⟩
  | 32 => ⟨S_, .f32⟩
  | 33 => ⟨S2048, .f32⟩
  | 34 => ⟨S2048x1, .f32⟩
  | 35 => ⟨S_, .f32⟩
  | 36 => ⟨S2048x1, .f32⟩
  | 37 => ⟨S2048x1, .f32⟩
  | 38 => ⟨S_, .f32⟩
  | 39 => ⟨S2048x1, .f32⟩
  | 40 => ⟨S2048x1, .f32⟩
  | 41 => ⟨S2048x1, .f32⟩
  | 42 => ⟨S2048x768, .f32⟩
  | 43 => ⟨S2048x768, .f32⟩
  | 44 => ⟨S1x768, .f32⟩
  | 45 => ⟨S2048x768, .f32⟩
  | 46 => ⟨S2048x768, .f32⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_call0_v0 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_call1_v0 : Ref sig .tc := ⟨.hbm, 21, rfl⟩
abbrev main_call0_v5 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_call0_cst_2 : Ref sig .tc := ⟨.hbm, 26, rfl⟩
abbrev main_call0_call2_v0 : Ref sig .tc := ⟨.hbm, 27, rfl⟩
abbrev main_v0 : Ref sig .tc := ⟨.hbm, 28, rfl⟩
abbrev main_v1 : Ref sig .tc := ⟨.hbm, 29, rfl⟩
abbrev main_c : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c_1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_v28 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_v29 : Ref sig .tc := ⟨.hbm, 67, rfl⟩
abbrev main_cst_7 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_8 : Ref sig .tc := ⟨.hbm, 76, rfl⟩
abbrev main_v37 : Ref sig .tc := ⟨.hbm, 77, rfl⟩
abbrev main_v38 : Ref sig .tc := ⟨.hbm, 78, rfl⟩
abbrev main_c_9 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_10 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v60 : Ref sig .tc := ⟨.hbm, 105, rfl⟩
abbrev main_v61 : Ref sig .tc := ⟨.hbm, 106, rfl⟩
abbrev main_c_11 : Ref sig .tc := ⟨.hbm, 107, rfl⟩
abbrev main_v62 : Ref sig .tc := ⟨.hbm, 108, rfl⟩
abbrev main_v63 : Ref sig .tc := ⟨.hbm, 109, rfl⟩
abbrev main_c_12 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_13 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v85 : Ref sig .tc := ⟨.hbm, 136, rfl⟩
abbrev main_v86 : Ref sig .tc := ⟨.hbm, 137, rfl⟩
abbrev main_c_14 : Ref sig .tc := ⟨.hbm, 138, rfl⟩
abbrev main_v87 : Ref sig .tc := ⟨.hbm, 139, rfl⟩
abbrev main_v88 : Ref sig .tc := ⟨.hbm, 140, rfl⟩
abbrev main_c_15 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_16 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_v110 : Ref sig .tc := ⟨.hbm, 167, rfl⟩
abbrev main_v111 : Ref sig .tc := ⟨.hbm, 168, rfl⟩
abbrev main_c_17 : Ref sig .tc := ⟨.hbm, 169, rfl⟩
abbrev main_v112 : Ref sig .tc := ⟨.hbm, 170, rfl⟩
abbrev main_v113 : Ref sig .tc := ⟨.hbm, 171, rfl⟩
abbrev main_c_18 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_19 : Ref sig .tc := ⟨.hbm, 194, rfl⟩
abbrev main_call5_v0 : Ref sig .tc := ⟨.hbm, 195, rfl⟩
abbrev main_call5_v1 : Ref sig .tc := ⟨.hbm, 196, rfl⟩
abbrev main_call5_v2 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_c_20 : Ref sig .tc := ⟨.hbm, 206, rfl⟩
abbrev main_v143 : Ref sig .tc := ⟨.hbm, 207, rfl⟩
abbrev main_v144 : Ref sig .tc := ⟨.hbm, 208, rfl⟩
abbrev main_c_21 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_22 : Ref sig .tc := ⟨.hbm, 231, rfl⟩
abbrev main_call6_v0 : Ref sig .tc := ⟨.hbm, 232, rfl⟩
abbrev main_call6_v1 : Ref sig .tc := ⟨.hbm, 233, rfl⟩
abbrev main_call6_v2 : Ref sig .tc := ⟨.hbm, 234, rfl⟩
abbrev main_v166 : Ref sig .tc := ⟨.hbm, 235, rfl⟩
abbrev main_v167 : Ref sig .tc := ⟨.hbm, 236, rfl⟩
abbrev main_c_23 : Ref sig .tc := ⟨.hbm, 237, rfl⟩
abbrev main_v168 : Ref sig .tc := ⟨.hbm, 238, rfl⟩
abbrev main_v169 : Ref sig .tc := ⟨.hbm, 239, rfl⟩
abbrev main_c_24 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_cst_25 : Ref sig .tc := ⟨.hbm, 262, rfl⟩
abbrev main_call7_v0 : Ref sig .tc := ⟨.hbm, 263, rfl⟩
abbrev main_call7_v1 : Ref sig .tc := ⟨.hbm, 264, rfl⟩
abbrev main_call7_v2 : Ref sig .tc := ⟨.hbm, 265, rfl⟩
abbrev main_v191 : Ref sig .tc := ⟨.hbm, 266, rfl⟩
abbrev main_v192 : Ref sig .tc := ⟨.hbm, 267, rfl⟩
abbrev main_c_26 : Ref sig .tc := ⟨.hbm, 268, rfl⟩
abbrev main_v193 : Ref sig .tc := ⟨.hbm, 269, rfl⟩
abbrev main_v194 : Ref sig .tc := ⟨.hbm, 270, rfl⟩
abbrev main_c_27 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_cst_28 : Ref sig .tc := ⟨.hbm, 293, rfl⟩
abbrev main_call8_v0 : Ref sig .tc := ⟨.hbm, 294, rfl⟩
abbrev main_call8_v1 : Ref sig .tc := ⟨.hbm, 295, rfl⟩
abbrev main_call8_v2 : Ref sig .tc := ⟨.hbm, 296, rfl⟩
abbrev main_v216 : Ref sig .tc := ⟨.hbm, 297, rfl⟩
abbrev main_v217 : Ref sig .tc := ⟨.hbm, 298, rfl⟩
abbrev main_c_29 : Ref sig .tc := ⟨.hbm, 299, rfl⟩
abbrev main_v218 : Ref sig .tc := ⟨.hbm, 300, rfl⟩
abbrev main_v219 : Ref sig .tc := ⟨.hbm, 301, rfl⟩
abbrev main_c_30 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_cst_31 : Ref sig .tc := ⟨.hbm, 324, rfl⟩
abbrev main_call9_v0 : Ref sig .tc := ⟨.hbm, 325, rfl⟩
abbrev main_call9_v1 : Ref sig .tc := ⟨.hbm, 326, rfl⟩
abbrev main_call9_v2 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_cst_32 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_cst_33 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_cst_34 : Ref sig .tc := ⟨.hbm, 340, rfl⟩
abbrev main_v251 : Ref sig .tc := ⟨.hbm, 341, rfl⟩
abbrev main_v252 : Ref sig .tc := ⟨.hbm, 342, rfl⟩
abbrev main_cst_35 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_cst_36 : Ref sig .tc := ⟨.hbm, 352, rfl⟩
abbrev main_call10_v0 : Ref sig .tc := ⟨.hbm, 353, rfl⟩
abbrev main_call10_v1 : Ref sig .tc := ⟨.hbm, 354, rfl⟩
abbrev main_call10_call0_v0 : Ref sig .tc := ⟨.hbm, 355, rfl⟩
abbrev main_call10_v2 : Ref sig .tc := ⟨.hbm, 356, rfl⟩
abbrev main_call10_cst : Ref sig .tc := ⟨.hbm, 357, rfl⟩
abbrev main_call10_v3 : Ref sig .tc := ⟨.hbm, 358, rfl⟩
abbrev main_call10_v4 : Ref sig .tc := ⟨.hbm, 359, rfl⟩
abbrev main_call10_cst_0 : Ref sig .tc := ⟨.hbm, 360, rfl⟩
abbrev main_call10_call1_v0 : Ref sig .tc := ⟨.hbm, 361, rfl⟩
abbrev main_call10_v5 : Ref sig .tc := ⟨.hbm, 362, rfl⟩
abbrev main_call10_cst_1 : Ref sig .tc := ⟨.hbm, 363, rfl⟩
abbrev main_call10_v6 : Ref sig .tc := ⟨.hbm, 364, rfl⟩
abbrev main_call10_v7 : Ref sig .tc := ⟨.hbm, 365, rfl⟩
abbrev main_call10_cst_2 : Ref sig .tc := ⟨.hbm, 366, rfl⟩
abbrev main_call10_call2_v0 : Ref sig .tc := ⟨.hbm, 367, rfl⟩
abbrev main_v261 : Ref sig .tc := ⟨.hbm, 368, rfl⟩
abbrev main_v262 : Ref sig .tc := ⟨.hbm, 369, rfl⟩
abbrev main_c_37 : Ref sig .tc := ⟨.hbm, 370, rfl⟩
abbrev main_v263 : Ref sig .tc := ⟨.hbm, 371, rfl⟩
abbrev main_v264 : Ref sig .tc := ⟨.hbm, 372, rfl⟩
abbrev main_v265 : Ref sig .tc := ⟨.hbm, 373, rfl⟩
abbrev main_v266 : Ref sig .tc := ⟨.hbm, 374, rfl⟩
abbrev main_v267 : Ref sig .tc := ⟨.hbm, 375, rfl⟩
abbrev main_c_38 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_v271 : Ref sig .tc := ⟨.hbm, 380, rfl⟩
abbrev main_v272 : Ref sig .tc := ⟨.hbm, 381, rfl⟩
abbrev main_c_39 : Ref sig .tc := ⟨.hbm, 382, rfl⟩
abbrev main_v273 : Ref sig .tc := ⟨.hbm, 383, rfl⟩
abbrev main_v274 : Ref sig .tc := ⟨.hbm, 384, rfl⟩
abbrev main_v275 : Ref sig .tc := ⟨.hbm, 385, rfl⟩
abbrev main_v276 : Ref sig .tc := ⟨.hbm, 386, rfl⟩
abbrev main_v277 : Ref sig .tc := ⟨.hbm, 387, rfl⟩
abbrev main_c_40 : Ref sig .tc := ⟨.hbm, 388, rfl⟩
abbrev main_v278 : Ref sig .tc := ⟨.hbm, 389, rfl⟩
abbrev main_v279 : Ref sig .tc := ⟨.hbm, 390, rfl⟩
abbrev main_v280 : Ref sig .tc := ⟨.hbm, 391, rfl⟩
abbrev main_v281 : Ref sig .tc := ⟨.hbm, 392, rfl⟩
abbrev main_c_41 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_cst_42 : Ref sig .tc := ⟨.hbm, 398, rfl⟩
abbrev main_v286 : Ref sig .tc := ⟨.hbm, 399, rfl⟩
abbrev main_v287 : Ref sig .tc := ⟨.hbm, 400, rfl⟩
abbrev main_cst_43 : Ref sig .tc := ⟨.hbm, 401, rfl⟩
abbrev main_v288 : Ref sig .tc := ⟨.hbm, 402, rfl⟩
abbrev main_v289 : Ref sig .tc := ⟨.hbm, 403, rfl⟩
abbrev main_cst_44 : Ref sig .tc := ⟨.hbm, 404, rfl⟩
abbrev main_call11_v0 : Ref sig .tc := ⟨.hbm, 405, rfl⟩
abbrev main_call11_v1 : Ref sig .tc := ⟨.hbm, 406, rfl⟩
abbrev main_v290 : Ref sig .tc := ⟨.hbm, 407, rfl⟩
abbrev main_cst_45 : Ref sig .tc := ⟨.hbm, 408, rfl⟩
abbrev main_v291 : Ref sig .tc := ⟨.hbm, 409, rfl⟩
abbrev main_v292 : Ref sig .tc := ⟨.hbm, 410, rfl⟩
abbrev main_v293 : Ref sig .tc := ⟨.hbm, 411, rfl⟩
abbrev main_v294 : Ref sig .tc := ⟨.hbm, 412, rfl⟩
abbrev main_v295 : Ref sig .tc := ⟨.hbm, 413, rfl⟩
abbrev main_v296 : Ref sig .tc := ⟨.hbm, 414, rfl⟩
abbrev main_v297 : Ref sig .tc := ⟨.hbm, 415, rfl⟩
abbrev main_c_46 : Ref sig .tc := ⟨.hbm, 416, rfl⟩
abbrev main_v298 : Ref sig .tc := ⟨.hbm, 417, rfl⟩
abbrev main_v299 : Ref sig .tc := ⟨.hbm, 418, rfl⟩
abbrev main_c_47 : Ref sig .tc := ⟨.hbm, 419, rfl⟩
abbrev main_v300 : Ref sig .tc := ⟨.hbm, 420, rfl⟩
abbrev main_v301 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_v307 : Ref sig .tc := ⟨.hbm, 427, rfl⟩
abbrev main_v308 : Ref sig .tc := ⟨.hbm, 428, rfl⟩
abbrev main_v309 : Ref sig .tc := ⟨.hbm, 429, rfl⟩
abbrev main_v310 : Ref sig .tc := ⟨.hbm, 430, rfl⟩
abbrev main_v311 : Ref sig .tc := ⟨.hbm, 431, rfl⟩
abbrev main_v312 : Ref sig .tc := ⟨.hbm, 432, rfl⟩
abbrev main_v313 : Ref sig .tc := ⟨.hbm, 433, rfl⟩
abbrev main_v314 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_v319 : Ref sig .tc := ⟨.hbm, 439, rfl⟩
abbrev main_v320 : Ref sig .tc := ⟨.hbm, 440, rfl⟩
abbrev main_cst_48 : Ref sig .tc := ⟨.hbm, 441, rfl⟩
abbrev main_call12_v0 : Ref sig .tc := ⟨.hbm, 442, rfl⟩
abbrev main_call12_v1 : Ref sig .tc := ⟨.hbm, 443, rfl⟩
abbrev main_call12_v2 : Ref sig .tc := ⟨.hbm, 444, rfl⟩
abbrev main_v321 : Ref sig .tc := ⟨.hbm, 445, rfl⟩
abbrev main_v322 : Ref sig .tc := ⟨.hbm, 446, rfl⟩
abbrev main_c_49 : Ref sig .tc := ⟨.hbm, 447, rfl⟩
abbrev main_v323 : Ref sig .tc := ⟨.hbm, 448, rfl⟩
abbrev main_v324 : Ref sig .tc := ⟨.hbm, 449, rfl⟩
abbrev main_c_50 : Ref sig .tc := ⟨.hbm, 450, rfl⟩
abbrev main_v325 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_v329 : Ref sig .tc := ⟨.hbm, 455, rfl⟩
abbrev main_v330 : Ref sig .tc := ⟨.hbm, 456, rfl⟩
abbrev main_v331 : Ref sig .tc := ⟨.hbm, 457, rfl⟩
abbrev main_v332 : Ref sig .tc := ⟨.hbm, 458, rfl⟩
abbrev main_v333 : Ref sig .tc := ⟨.hbm, 459, rfl⟩
abbrev main_v334 : Ref sig .tc := ⟨.hbm, 460, rfl⟩
abbrev main_v335 : Ref sig .tc := ⟨.hbm, 461, rfl⟩
abbrev main_v336 : Ref sig .tc := ⟨.hbm, 462, rfl⟩
abbrev main_v337 : Ref sig .tc := ⟨.hbm, 463, rfl⟩
abbrev main_v338 : Ref sig .tc := ⟨.hbm, 464, rfl⟩
abbrev main_v339 : Ref sig .tc := ⟨.hbm, 465, rfl⟩
abbrev main_v340 : Ref sig .tc := ⟨.hbm, 466, rfl⟩
abbrev main_v341 : Ref sig .tc := ⟨.hbm, 467, rfl⟩
abbrev main_v342 : Ref sig .tc := ⟨.hbm, 468, rfl⟩
abbrev main_v343 : Ref sig .tc := ⟨.hbm, 469, rfl⟩
abbrev main_v344 : Ref sig .tc := ⟨.hbm, 470, rfl⟩
abbrev main_v345 : Ref sig .tc := ⟨.hbm, 471, rfl⟩
abbrev main_cst_51 : Ref sig .tc := ⟨.hbm, 472, rfl⟩
abbrev main_call13_v0 : Ref sig .tc := ⟨.hbm, 473, rfl⟩
abbrev main_call13_v1 : Ref sig .tc := ⟨.hbm, 474, rfl⟩
abbrev main_call13_v2 : Ref sig .tc := ⟨.hbm, 475, rfl⟩
abbrev main_v346 : Ref sig .tc := ⟨.hbm, 476, rfl⟩
abbrev main_v347 : Ref sig .tc := ⟨.hbm, 477, rfl⟩
abbrev main_c_52 : Ref sig .tc := ⟨.hbm, 478, rfl⟩
abbrev main_v348 : Ref sig .tc := ⟨.hbm, 479, rfl⟩
abbrev main_v349 : Ref sig .tc := ⟨.hbm, 480, rfl⟩
abbrev main_c_53 : Ref sig .tc := ⟨.hbm, 481, rfl⟩
abbrev main_v350 : Ref sig .tc := ⟨.hbm, 482, rfl⟩
abbrev main_v351 : Ref sig .tc := ⟨.hbm, 483, rfl⟩
abbrev main_v352 : Ref sig .tc := ⟨.hbm, 484, rfl⟩
abbrev main_v353 : Ref sig .tc := ⟨.hbm, 485, rfl⟩
abbrev main_v354 : Ref sig .tc := ⟨.hbm, 486, rfl⟩
abbrev main_v355 : Ref sig .tc := ⟨.hbm, 487, rfl⟩
abbrev main_v356 : Ref sig .tc := ⟨.hbm, 488, rfl⟩
abbrev main_v357 : Ref sig .tc := ⟨.hbm, 489, rfl⟩
abbrev main_v358 : Ref sig .tc := ⟨.hbm, 490, rfl⟩
abbrev main_v359 : Ref sig .tc := ⟨.hbm, 491, rfl⟩
abbrev main_v360 : Ref sig .tc := ⟨.hbm, 492, rfl⟩
abbrev main_v361 : Ref sig .tc := ⟨.hbm, 493, rfl⟩
abbrev main_v362 : Ref sig .tc := ⟨.hbm, 494, rfl⟩
abbrev main_v363 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_v369 : Ref sig .tc := ⟨.hbm, 501, rfl⟩
abbrev main_v370 : Ref sig .tc := ⟨.hbm, 502, rfl⟩
abbrev main_cst_54 : Ref sig .tc := ⟨.hbm, 503, rfl⟩
abbrev main_call14_v0 : Ref sig .tc := ⟨.hbm, 504, rfl⟩
abbrev main_call14_v1 : Ref sig .tc := ⟨.hbm, 505, rfl⟩
abbrev main_call14_v2 : Ref sig .tc := ⟨.hbm, 506, rfl⟩
abbrev main_v371 : Ref sig .tc := ⟨.hbm, 507, rfl⟩
abbrev main_v372 : Ref sig .tc := ⟨.hbm, 508, rfl⟩
abbrev main_c_55 : Ref sig .tc := ⟨.hbm, 509, rfl⟩
abbrev main_v373 : Ref sig .tc := ⟨.hbm, 510, rfl⟩
abbrev main_v374 : Ref sig .tc := ⟨.hbm, 511, rfl⟩
abbrev main_c_56 : Ref sig .tc := ⟨.hbm, 512, rfl⟩
abbrev main_v375 : Ref sig .tc := ⟨.hbm, 513, rfl⟩
abbrev main_v376 : Ref sig .tc := ⟨.hbm, 514, rfl⟩
abbrev main_v377 : Ref sig .tc := ⟨.hbm, 515, rfl⟩
abbrev main_v378 : Ref sig .tc := ⟨.hbm, 516, rfl⟩
abbrev main_v379 : Ref sig .tc := ⟨.hbm, 517, rfl⟩
abbrev main_v380 : Ref sig .tc := ⟨.hbm, 518, rfl⟩
abbrev main_v381 : Ref sig .tc := ⟨.hbm, 519, rfl⟩
abbrev main_v382 : Ref sig .tc := ⟨.hbm, 520, rfl⟩
abbrev main_v383 : Ref sig .tc := ⟨.hbm, 521, rfl⟩
abbrev main_v384 : Ref sig .tc := ⟨.hbm, 522, rfl⟩
abbrev main_v385 : Ref sig .tc := ⟨.hbm, 523, rfl⟩
abbrev main_v386 : Ref sig .tc := ⟨.hbm, 524, rfl⟩
abbrev main_v387 : Ref sig .tc := ⟨.hbm, 525, rfl⟩
abbrev main_v388 : Ref sig .tc := ⟨.hbm, 526, rfl⟩
abbrev main_v389 : Ref sig .tc := ⟨.hbm, 527, rfl⟩
abbrev main_v390 : Ref sig .tc := ⟨.hbm, 528, rfl⟩
abbrev main_v391 : Ref sig .tc := ⟨.hbm, 529, rfl⟩
abbrev main_v392 : Ref sig .tc := ⟨.hbm, 530, rfl⟩
abbrev main_v393 : Ref sig .tc := ⟨.hbm, 531, rfl⟩
abbrev main_v394 : Ref sig .tc := ⟨.hbm, 532, rfl⟩
abbrev main_v395 : Ref sig .tc := ⟨.hbm, 533, rfl⟩
abbrev main_cst_57 : Ref sig .tc := ⟨.hbm, 534, rfl⟩
abbrev main_call15_v0 : Ref sig .tc := ⟨.hbm, 535, rfl⟩
abbrev main_call15_v1 : Ref sig .tc := ⟨.hbm, 536, rfl⟩
abbrev main_call15_v2 : Ref sig .tc := ⟨.hbm, 537, rfl⟩
abbrev main_v396 : Ref sig .tc := ⟨.hbm, 538, rfl⟩
abbrev main_v397 : Ref sig .tc := ⟨.hbm, 539, rfl⟩
abbrev main_v398 : Ref sig .tc := ⟨.hbm, 540, rfl⟩
abbrev main_v399 : Ref sig .tc := ⟨.hbm, 541, rfl⟩
abbrev main_v400 : Ref sig .tc := ⟨.hbm, 542, rfl⟩
abbrev main_v401 : Ref sig .tc := ⟨.hbm, 543, rfl⟩
abbrev main_v402 : Ref sig .tc := ⟨.hbm, 544, rfl⟩
abbrev main_v403 : Ref sig .tc := ⟨.hbm, 545, rfl⟩
abbrev main_c_58 : Ref sig .tc := ⟨.hbm, 546, rfl⟩
abbrev main_v404 : Ref sig .tc := ⟨.hbm, 547, rfl⟩
abbrev main_v405 : Ref sig .tc := ⟨.hbm, 548, rfl⟩
abbrev main_c_59 : Ref sig .tc := ⟨.hbm, 549, rfl⟩
abbrev main_v406 : Ref sig .tc := ⟨.hbm, 550, rfl⟩
abbrev main_v407 : Ref sig .tc := ⟨.hbm, 551, rfl⟩
abbrev main_v408 : Ref sig .tc := ⟨.hbm, 552, rfl⟩
abbrev main_v409 : Ref sig .tc := ⟨.hbm, 553, rfl⟩
abbrev main_v410 : Ref sig .tc := ⟨.hbm, 554, rfl⟩
abbrev main_v411 : Ref sig .tc := ⟨.hbm, 555, rfl⟩
abbrev main_v412 : Ref sig .tc := ⟨.hbm, 556, rfl⟩
abbrev main_v413 : Ref sig .tc := ⟨.hbm, 557, rfl⟩
abbrev main_v414 : Ref sig .tc := ⟨.hbm, 558, rfl⟩
abbrev main_v415 : Ref sig .tc := ⟨.hbm, 559, rfl⟩
abbrev main_v416 : Ref sig .tc := ⟨.hbm, 560, rfl⟩
abbrev main_v417 : Ref sig .tc := ⟨.hbm, 561, rfl⟩
abbrev main_v418 : Ref sig .tc := ⟨.hbm, 562, rfl⟩
abbrev main_v419 : Ref sig .tc := ⟨.hbm, 563, rfl⟩
abbrev main_v420 : Ref sig .tc := ⟨.hbm, 564, rfl⟩
abbrev main_v421 : Ref sig .tc := ⟨.hbm, 565, rfl⟩
abbrev main_v422 : Ref sig .tc := ⟨.hbm, 566, rfl⟩
abbrev main_v423 : Ref sig .tc := ⟨.hbm, 567, rfl⟩
abbrev main_v424 : Ref sig .tc := ⟨.hbm, 568, rfl⟩
abbrev main_v425 : Ref sig .tc := ⟨.hbm, 569, rfl⟩
abbrev main_v426 : Ref sig .tc := ⟨.hbm, 570, rfl⟩
abbrev main_cst_60 : Ref sig .tc := ⟨.hbm, 571, rfl⟩
abbrev main_call16_v0 : Ref sig .tc := ⟨.hbm, 572, rfl⟩
abbrev main_call16_v1 : Ref sig .tc := ⟨.hbm, 573, rfl⟩
abbrev main_call16_v2 : Ref sig .tc := ⟨.hbm, 574, rfl⟩
abbrev main_v427 : Ref sig .tc := ⟨.hbm, 575, rfl⟩
abbrev main_v428 : Ref sig .tc := ⟨.hbm, 576, rfl⟩
abbrev main_c_61 : Ref sig .tc := ⟨.hbm, 577, rfl⟩
abbrev main_v429 : Ref sig .tc := ⟨.hbm, 578, rfl⟩
abbrev main_v430 : Ref sig .tc := ⟨.hbm, 579, rfl⟩
abbrev main_c_62 : Ref sig .tc := ⟨.hbm, 580, rfl⟩
abbrev main_v431 : Ref sig .tc := ⟨.hbm, 581, rfl⟩
abbrev main_v432 : Ref sig .tc := ⟨.hbm, 582, rfl⟩
abbrev main_v433 : Ref sig .tc := ⟨.hbm, 583, rfl⟩
abbrev main_v434 : Ref sig .tc := ⟨.hbm, 584, rfl⟩
abbrev main_v435 : Ref sig .tc := ⟨.hbm, 585, rfl⟩
abbrev main_v436 : Ref sig .tc := ⟨.hbm, 586, rfl⟩
abbrev main_v437 : Ref sig .tc := ⟨.hbm, 587, rfl⟩
abbrev main_v438 : Ref sig .tc := ⟨.hbm, 588, rfl⟩
abbrev main_v439 : Ref sig .tc := ⟨.hbm, 589, rfl⟩
abbrev main_v440 : Ref sig .tc := ⟨.hbm, 590, rfl⟩
abbrev main_v441 : Ref sig .tc := ⟨.hbm, 591, rfl⟩
abbrev main_v442 : Ref sig .tc := ⟨.hbm, 592, rfl⟩
abbrev main_v443 : Ref sig .tc := ⟨.hbm, 593, rfl⟩
abbrev main_v444 : Ref sig .tc := ⟨.hbm, 594, rfl⟩
abbrev main_v445 : Ref sig .tc := ⟨.hbm, 595, rfl⟩
abbrev main_v446 : Ref sig .tc := ⟨.hbm, 596, rfl⟩
abbrev main_v447 : Ref sig .tc := ⟨.hbm, 597, rfl⟩
abbrev main_v448 : Ref sig .tc := ⟨.hbm, 598, rfl⟩
abbrev main_v449 : Ref sig .tc := ⟨.hbm, 599, rfl⟩
abbrev main_v450 : Ref sig .tc := ⟨.hbm, 600, rfl⟩
abbrev main_v451 : Ref sig .tc := ⟨.hbm, 601, rfl⟩
abbrev main_cst_63 : Ref sig .tc := ⟨.hbm, 602, rfl⟩
abbrev main_call17_v0 : Ref sig .tc := ⟨.hbm, 603, rfl⟩
abbrev main_call17_v1 : Ref sig .tc := ⟨.hbm, 604, rfl⟩
abbrev main_call17_v2 : Ref sig .tc := ⟨.hbm, 605, rfl⟩
abbrev main_v452 : Ref sig .tc := ⟨.hbm, 606, rfl⟩
abbrev main_v453 : Ref sig .tc := ⟨.hbm, 607, rfl⟩
abbrev main_c_64 : Ref sig .tc := ⟨.hbm, 608, rfl⟩
abbrev main_v454 : Ref sig .tc := ⟨.hbm, 609, rfl⟩
abbrev main_v455 : Ref sig .tc := ⟨.hbm, 610, rfl⟩
abbrev main_c_65 : Ref sig .tc := ⟨.hbm, 611, rfl⟩
abbrev main_v456 : Ref sig .tc := ⟨.hbm, 612, rfl⟩
abbrev main_v457 : Ref sig .tc := ⟨.hbm, 613, rfl⟩
abbrev main_v458 : Ref sig .tc := ⟨.hbm, 614, rfl⟩
abbrev main_v459 : Ref sig .tc := ⟨.hbm, 615, rfl⟩
abbrev main_v460 : Ref sig .tc := ⟨.hbm, 616, rfl⟩
abbrev main_v461 : Ref sig .tc := ⟨.hbm, 617, rfl⟩
abbrev main_v462 : Ref sig .tc := ⟨.hbm, 618, rfl⟩
abbrev main_v463 : Ref sig .tc := ⟨.hbm, 619, rfl⟩
abbrev main_v464 : Ref sig .tc := ⟨.hbm, 620, rfl⟩
abbrev main_v465 : Ref sig .tc := ⟨.hbm, 621, rfl⟩
abbrev main_v466 : Ref sig .tc := ⟨.hbm, 622, rfl⟩
abbrev main_v467 : Ref sig .tc := ⟨.hbm, 623, rfl⟩
abbrev main_v468 : Ref sig .tc := ⟨.hbm, 624, rfl⟩
abbrev main_v469 : Ref sig .tc := ⟨.hbm, 625, rfl⟩
abbrev main_v470 : Ref sig .tc := ⟨.hbm, 626, rfl⟩
abbrev main_v471 : Ref sig .tc := ⟨.hbm, 627, rfl⟩
abbrev main_v472 : Ref sig .tc := ⟨.hbm, 628, rfl⟩
abbrev main_v473 : Ref sig .tc := ⟨.hbm, 629, rfl⟩
abbrev main_v474 : Ref sig .tc := ⟨.hbm, 630, rfl⟩
abbrev main_v475 : Ref sig .tc := ⟨.hbm, 631, rfl⟩
abbrev main_v476 : Ref sig .tc := ⟨.hbm, 632, rfl⟩
abbrev main_cst_66 : Ref sig .tc := ⟨.hbm, 633, rfl⟩
abbrev main_call18_v0 : Ref sig .tc := ⟨.hbm, 634, rfl⟩
abbrev main_call18_v1 : Ref sig .tc := ⟨.hbm, 635, rfl⟩
abbrev main_call18_v2 : Ref sig .tc := ⟨.hbm, 636, rfl⟩
abbrev main_v477 : Ref sig .tc := ⟨.hbm, 637, rfl⟩
abbrev main_v478 : Ref sig .tc := ⟨.hbm, 638, rfl⟩
abbrev main_c_67 : Ref sig .tc := ⟨.hbm, 639, rfl⟩
abbrev main_v479 : Ref sig .tc := ⟨.hbm, 640, rfl⟩
abbrev main_v480 : Ref sig .tc := ⟨.hbm, 641, rfl⟩
abbrev main_c_68 : Ref sig .tc := ⟨.hbm, 642, rfl⟩
abbrev main_v481 : Ref sig .tc := ⟨.hbm, 643, rfl⟩
abbrev main_v482 : Ref sig .tc := ⟨.hbm, 644, rfl⟩
abbrev main_v483 : Ref sig .tc := ⟨.hbm, 645, rfl⟩
abbrev main_v484 : Ref sig .tc := ⟨.hbm, 646, rfl⟩
abbrev main_v485 : Ref sig .tc := ⟨.hbm, 647, rfl⟩
abbrev main_v486 : Ref sig .tc := ⟨.hbm, 648, rfl⟩
abbrev main_v487 : Ref sig .tc := ⟨.hbm, 649, rfl⟩
abbrev main_v488 : Ref sig .tc := ⟨.hbm, 650, rfl⟩
abbrev main_v489 : Ref sig .tc := ⟨.hbm, 651, rfl⟩
abbrev main_v490 : Ref sig .tc := ⟨.hbm, 652, rfl⟩
abbrev main_v491 : Ref sig .tc := ⟨.hbm, 653, rfl⟩
abbrev main_v492 : Ref sig .tc := ⟨.hbm, 654, rfl⟩
abbrev main_v493 : Ref sig .tc := ⟨.hbm, 655, rfl⟩
abbrev main_v494 : Ref sig .tc := ⟨.hbm, 656, rfl⟩
abbrev main_v495 : Ref sig .tc := ⟨.hbm, 657, rfl⟩
abbrev main_v496 : Ref sig .tc := ⟨.hbm, 658, rfl⟩
abbrev main_v497 : Ref sig .tc := ⟨.hbm, 659, rfl⟩
abbrev main_v498 : Ref sig .tc := ⟨.hbm, 660, rfl⟩
abbrev main_v499 : Ref sig .tc := ⟨.hbm, 661, rfl⟩
abbrev main_v500 : Ref sig .tc := ⟨.hbm, 662, rfl⟩
abbrev main_v501 : Ref sig .tc := ⟨.hbm, 663, rfl⟩
abbrev main_cst_69 : Ref sig .tc := ⟨.hbm, 664, rfl⟩
abbrev main_call19_v0 : Ref sig .tc := ⟨.hbm, 665, rfl⟩
abbrev main_call19_v1 : Ref sig .tc := ⟨.hbm, 666, rfl⟩
abbrev main_call19_v2 : Ref sig .tc := ⟨.hbm, 667, rfl⟩
abbrev main_v502 : Ref sig .tc := ⟨.hbm, 668, rfl⟩
abbrev main_v503 : Ref sig .tc := ⟨.hbm, 669, rfl⟩
abbrev main_v504 : Ref sig .tc := ⟨.hbm, 670, rfl⟩
abbrev main_v505 : Ref sig .tc := ⟨.hbm, 671, rfl⟩
abbrev main_cst_70 : Ref sig .tc := ⟨.hbm, 672, rfl⟩
abbrev main_v506 : Ref sig .tc := ⟨.hbm, 673, rfl⟩
abbrev main_v507 : Ref sig .tc := ⟨.hbm, 674, rfl⟩
abbrev main_cst_71 : Ref sig .tc := ⟨.hbm, 675, rfl⟩
abbrev main_v508 : Ref sig .tc := ⟨.hbm, 676, rfl⟩
abbrev main_v509 : Ref sig .tc := ⟨.hbm, 677, rfl⟩
abbrev main_cst_72 : Ref sig .tc := ⟨.hbm, 678, rfl⟩
abbrev main_v510 : Ref sig .tc := ⟨.hbm, 679, rfl⟩
abbrev main_v511 : Ref sig .tc := ⟨.hbm, 680, rfl⟩
abbrev main_v512 : Ref sig .tc := ⟨.hbm, 681, rfl⟩
abbrev main_v513 : Ref sig .tc := ⟨.hbm, 682, rfl⟩
abbrev main_v514 : Ref sig .tc := ⟨.hbm, 683, rfl⟩
abbrev main_v515 : Ref sig .tc := ⟨.hbm, 684, rfl⟩
abbrev main_v516 : Ref sig .tc := ⟨.hbm, 685, rfl⟩
abbrev main_v517 : Ref sig .tc := ⟨.hbm, 686, rfl⟩

abbrev nD : Nat := 1
abbrev τ : Topo := Topo.v7x

variable {F : FTy → Type} [FloatOps F]
-- ==== Proof.Blk.lean ====
module

public import proofs.«01_k».proof.Proof.Gen.KernelIdeal.Value
public import Idealize.ShloMosaic.Lib.Tactic

/-! What one launch of the kernel's body stores: the block of 256 rows of the output as one term over the blocks
it reads and the two packed weight arrays, and the packed weight arrays the first grid point writes. -/

@[expose] public section

set_option maxRecDepth 16384

noncomputable section

open Idealize.ShloMosaic Idealize.ShloMosaic.TcCoe Idealize.SL.Sem

namespace Cert.KernelIdeal.Blk

open Cert.KernelIdeal Cert.KernelIdeal.Gen

variable {F : FTy → Type} [FloatOps F]

/-- The hidden activations of a block, as the kernel computes them from the block's two rows of expert weights `v5`
and expert indices `v9`, the activations `x2`, the packed hidden weights `xs0` and the hidden biases `x5`. -/
def hidB (v5 : Vec F S2x256 .f32) (v9 : Vec F S2x256 .i32) (x2 : Vec F S4x256x1024 .f32)
    (xs0 : Vec F S1024x2560 .bf16) (x5 : Vec F S4x1024 .f32) : FVec F S256x1024 .bf16 :=
  k0_pay50 (k0_pay22 v5 v9) (k0_pay29 (k0_pay18 v9) (k0_pay19 v5 v9)) (k0_pay36 (k0_pay18 v9) (k0_pay19 v5 v9))
    (k0_pay41
      (k0_pay34
        (k0_pay27 k0_pay20 (k0_pay22 v5 v9) k0_pay23 (k0_pay25 (View.ld x2 (Rect.unit ![0, 0, 0] S1x256x1024.size inb_S4x256x1024_S1x256x1024_0_0_0)))
          (View.ld xs0 (Rect.unit ![0, 0] S1024x128.size inb_S1024x2560_S1024x128_0_0)) (View.ld x2 (Rect.unit ![0, 0, 0] S1x256x1024.size inb_S4x256x1024_S1x256x1024_0_0_0))
          (View.ld xs0 (Rect.unit ![0, 128] S1024x128.size inb_S1024x2560_S1024x128_0_128)))
        (k0_pay29 (k0_pay18 v9) (k0_pay19 v5 v9)) k0_pay30 (k0_pay32 (View.ld x2 (Rect.unit ![1, 0, 0] S1x256x1024.size inb_S4x256x1024_S1x256x1024_1_0_0)))
        (View.ld xs0 (Rect.unit ![0, 256] S1024x256.size inb_S1024x2560_S1024x256_0_256)) (View.ld x2 (Rect.unit ![1, 0, 0] S1x256x1024.size inb_S4x256x1024_S1x256x1024_1_0_0))
        (View.ld xs0 (Rect.unit ![0, 512] S1024x256.size inb_S1024x2560_S1024x256_0_512)))
      (k0_pay36 (k0_pay18 v9) (k0_pay19 v5 v9)) (k0_pay39 (View.ld x2 (Rect.unit ![2, 0, 0] S1x256x1024.size inb_S4x256x1024_S1x256x1024_2_0_0)) (View.ld xs0 (Rect.unit ![0, 768] S1024x384.size inb_S1024x2560_S1024x384_0_768)))
      (View.ld x2 (Rect.unit ![2, 0, 0] S1x256x1024.size inb_S4x256x1024_S1x256x1024_2_0_0)) (View.ld xs0 (Rect.unit ![0, 1152] S1024x384.size inb_S1024x2560_S1024x384_0_1152)))
    (k0_pay43 (k0_pay18 v9) (k0_pay19 v5 v9)) (k0_pay46 (View.ld x2 (Rect.unit ![3, 0, 0] S1x256x1024.size inb_S4x256x1024_S1x256x1024_3_0_0)) (View.ld xs0 (Rect.unit ![0, 1536] S1024x512.size inb_S1024x2560_S1024x512_0_1536)))
    (View.ld x2 (Rect.unit ![3, 0, 0] S1x256x1024.size inb_S4x256x1024_S1x256x1024_3_0_0)) (View.ld xs0 (Rect.unit ![0, 2048] S1024x512.size inb_S1024x2560_S1024x512_0_2048))
    (View.ld x5 (Rect.unit ![0, 0] S4x1024.size inb_S4x1024_S4x1024_0_0))

/-- The residual part of a block, from the same reads, the packed residual weights `xs1` and the residual biases
`x8`. -/
def resB (v5 : Vec F S2x256 .f32) (v9 : Vec F S2x256 .i32) (x2 : Vec F S4x256x1024 .f32)
    (xs1 : Vec F S768x2560 .bf16) (x8 : Vec F S4x768 .f32) : FVec F S256x768 .f32 :=
  k0_pay49 (k0_pay22 v5 v9) (k0_pay29 (k0_pay18 v9) (k0_pay19 v5 v9)) (k0_pay36 (k0_pay18 v9) (k0_pay19 v5 v9))
    (k0_pay42
      (k0_pay35
        (k0_pay28 k0_pay21 (k0_pay22 v5 v9) k0_pay24 (k0_pay25 (View.ld x2 (Rect.unit ![0, 0, 0] S1x256x1024.size inb_S4x256x1024_S1x256x1024_0_0_0)))
          (View.ld xs1 (Rect.unit ![0, 0] S768x128.size inb_S768x2560_S768x128_0_0)) (View.ld x2 (Rect.unit ![0, 0, 0] S1x256x1024.size inb_S4x256x1024_S1x256x1024_0_0_0))
          (View.ld xs1 (Rect.unit ![0, 128] S768x128.size inb_S768x2560_S768x128_0_128)))
        (k0_pay29 (k0_pay18 v9) (k0_pay19 v5 v9)) k0_pay31 (k0_pay32 (View.ld x2 (Rect.unit ![1, 0, 0] S1x256x1024.size inb_S4x256x1024_S1x256x1024_1_0_0)))
        (View.ld xs1 (Rect.unit ![0, 256] S768x256.size inb_S768x2560_S768x256_0_256)) (View.ld x2 (Rect.unit ![1, 0, 0] S1x256x1024.size inb_S4x256x1024_S1x256x1024_1_0_0))
        (View.ld xs1 (Rect.unit ![0, 512] S768x256.size inb_S768x2560_S768x256_0_512)))
      (k0_pay36 (k0_pay18 v9) (k0_pay19 v5 v9)) k0_pay37 (k0_pay38 (View.ld x2 (Rect.unit ![2, 0, 0] S1x256x1024.size inb_S4x256x1024_S1x256x1024_2_0_0))) (View.ld xs1 (Rect.unit ![0, 768] S768x384.size inb_S768x2560_S768x384_0_768))
      (View.ld x2 (Rect.unit ![2, 0, 0] S1x256x1024.size inb_S4x256x1024_S1x256x1024_2_0_0)) (View.ld xs1 (Rect.unit ![0, 1152] S768x384.size inb_S768x2560_S768x384_0_1152)))
    (k0_pay43 (k0_pay18 v9) (k0_pay19 v5 v9)) k0_pay44 (k0_pay45 (View.ld x2 (Rect.unit ![3, 0, 0] S1x256x1024.size inb_S4x256x1024_S1x256x1024_3_0_0))) (View.ld xs1 (Rect.unit ![0, 1536] S768x512.size inb_S768x2560_S768x512_0_1536))
    (View.ld x2 (Rect.unit ![3, 0, 0] S1x256x1024.size inb_S4x256x1024_S1x256x1024_3_0_0)) (View.ld xs1 (Rect.unit ![0, 2048] S768x512.size inb_S768x2560_S768x512_0_2048))
    (View.ld x8 (Rect.unit ![0, 0] S4x768.size inb_S4x768_S4x768_0_0))

/-- The columns of a two-row table that belong to grid point `i`. -/
def cols {e : EltTy} (i : grid0.Coords) (x : Vec F S2x2048 e) : Vec F S2x256 e :=
  View.ld x (Rect.unit (s := S2x2048) (k0_off1 i) S2x256.size (k0_off1_inb i))

/-- The output block of grid point `i`: output projection of the hidden activations plus residual, normalised. -/
def blk (i : grid0.Coords) (x0 : Vec F S2x2048 .f32) (x1 : Vec F S2x2048 .i32) (x2 : Vec F S4x256x1024 .f32)
    (x5 : Vec F S4x1024 .f32) (x6 : Vec F S768x1024 .bf16) (x7 : Vec F S1x768 .f32) (x8 : Vec F S4x768 .f32)
    (x9 : Vec F S1x768 .f32) (xs0 : Vec F S1024x2560 .bf16) (xs1 : Vec F S768x2560 .bf16) :
    FVec F S256x768 .f32 :=
  k0_pay1 (resB (cols i x0) (cols i x1) x2 xs1 x8) (hidB (cols i x0) (cols i x1) x2 xs0 x5)
    (View.ld x6 (Rect.unit ![0, 0] S768x1024.size inb_S768x1024_S768x1024_0_0))
    (View.ld x7 (Rect.unit ![0, 0] S1x768.size inb_S1x768_S1x768_0_0))
    (View.ld x9 (Rect.unit ![0, 0] S1x768.size inb_S1x768_S1x768_0_0))

/-- The pieces the first grid point writes into the packed hidden weights, last first: for each expert its low
and its high columns. -/
def piecesH (x3 : Vec F S4x1024x1024 .f32) : List (View.Piece (Elt F) S1024x2560 .bf16) :=
  [ ⟨Rect.unit ![0, 2048] S1024x512.size inb_S1024x2560_S1024x512_0_2048,
      k0_pay16 (View.ld x3 (Rect.unit ![3, 0, 512] S1x1024x512.size inb_S4x1024x1024_S1x1024x512_3_0_512))⟩,
    ⟨Rect.unit ![0, 1536] S1024x512.size inb_S1024x2560_S1024x512_0_1536,
      k0_pay14 (View.ld x3 (Rect.unit ![3, 0, 0] S1x1024x512.size inb_S4x1024x1024_S1x1024x512_3_0_0))⟩,
    ⟨Rect.unit ![0, 1152] S1024x384.size inb_S1024x2560_S1024x384_0_1152,
      k0_pay12 (View.ld x3 (Rect.unit ![2, 0, 512] S1x1024x384.size inb_S4x1024x1024_S1x1024x384_2_0_512))⟩,
    ⟨Rect.unit ![0, 768] S1024x384.size inb_S1024x2560_S1024x384_0_768,
      k0_pay10 (View.ld x3 (Rect.unit ![2, 0, 0] S1x1024x384.size inb_S4x1024x1024_S1x1024x384_2_0_0))⟩,
    ⟨Rect.unit ![0, 512] S1024x256.size inb_S1024x2560_S1024x256_0_512,
      k0_pay8 (View.ld x3 (Rect.unit ![1, 0, 512] S1x1024x256.size inb_S4x1024x1024_S1x1024x256_1_0_512))⟩,
    ⟨Rect.unit ![0, 256] S1024x256.size inb_S1024x2560_S1024x256_0_256,
      k0_pay6 (View.ld x3 (Rect.unit ![1, 0, 0] S1x1024x256.size inb_S4x1024x1024_S1x1024x256_1_0_0))⟩,
    ⟨Rect.unit ![0, 128] S1024x128.size inb_S1024x2560_S1024x128_0_128,
      k0_pay4 (View.ld x3 (Rect.unit ![0, 0, 512] S1x1024x128.size inb_S4x1024x1024_S1x1024x128_0_0_512))⟩,
    ⟨Rect.unit ![0, 0] S1024x128.size inb_S1024x2560_S1024x128_0_0,
      k0_pay2 (View.ld x3 (Rect.unit ![0, 0, 0] S1x1024x128.size inb_S4x1024x1024_S1x1024x128_0_0_0))⟩ ]

/-- The pieces of the packed residual weights. -/
def piecesR (x4 : Vec F S4x768x1024 .f32) : List (View.Piece (Elt F) S768x2560 .bf16) :=
  [ ⟨Rect.unit ![0, 2048] S768x512.size inb_S768x2560_S768x512_0_2048,
      k0_pay17 (View.ld x4 (Rect.unit ![3, 0, 512] S1x768x512.size inb_S4x768x1024_S1x768x512_3_0_512))⟩,
    ⟨Rect.unit ![0, 1536] S768x512.size inb_S768x2560_S768x512_0_1536,
      k0_pay15 (View.ld x4 (Rect.unit ![3, 0, 0] S1x768x512.size inb_S4x768x1024_S1x768x512_3_0_0))⟩,
    ⟨Rect.unit ![0, 1152] S768x384.size inb_S768x2560_S768x384_0_1152,
      k0_pay13 (View.ld x4 (Rect.unit ![2, 0, 512] S1x768x384.size inb_S4x768x1024_S1x768x384_2_0_512))⟩,
    ⟨Rect.unit ![0, 768] S768x384.size inb_S768x2560_S768x384_0_768,
      k0_pay11 (View.ld x4 (Rect.unit ![2, 0, 0] S1x768x384.size inb_S4x768x1024_S1x768x384_2_0_0))⟩,
    ⟨Rect.unit ![0, 512] S768x256.size inb_S768x2560_S768x256_0_512,
      k0_pay9 (View.ld x4 (Rect.unit ![1, 0, 512] S1x768x256.size inb_S4x768x1024_S1x768x256_1_0_512))⟩,
    ⟨Rect.unit ![0, 256] S768x256.size inb_S768x2560_S768x256_0_256,
      k0_pay7 (View.ld x4 (Rect.unit ![1, 0, 0] S1x768x256.size inb_S4x768x1024_S1x768x256_1_0_0))⟩,
    ⟨Rect.unit ![0, 128] S768x128.size inb_S768x2560_S768x128_0_128,
      k0_pay5 (View.ld x4 (Rect.unit ![0, 0, 512] S1x768x128.size inb_S4x768x1024_S1x768x128_0_0_512))⟩,
    ⟨Rect.unit ![0, 0] S768x128.size inb_S768x2560_S768x128_0_0,
      k0_pay3 (View.ld x4 (Rect.unit ![0, 0, 0] S1x768x128.size inb_S4x768x1024_S1x768x128_0_0_0))⟩ ]

/-- The packed hidden weights. -/
def packH (x3 : Vec F S4x1024x1024 .f32) : Vec F S1024x2560 .bf16 := View.canon (piecesH x3)

/-- The packed residual weights. -/
def packR (x4 : Vec F S4x768x1024 .f32) : Vec F S768x2560 .bf16 := View.canon (piecesR x4)

/-- The zero offsets of a whole array. -/
theorem zero2 : (![0, 0] : Fin 2 → Nat) = fun _ => 0 := by
  funext a; fin_cases a <;> rfl

set_option maxHeartbeats 4000000 in
/-- At a grid point after the first, the body stores the block over the packed weights it finds. -/
theorem out_B (c : Dev nD) (i : grid0.Coords) (arg1 : Memref sig .tc .vmem S2x2048 .f32) (harg1 : arg1.IsWhole) (arg2 : Memref sig .tc .vmem S2x2048 .i32) (harg2 : arg2.IsWhole) (arg3 : Memref sig .tc .vmem S4x256x1024 .f32) (harg3 : arg3.IsWhole) (arg4 : Memref sig .tc .vmem S4x1024x1024 .f32) (harg4 : arg4.IsWhole) (arg5 : Memref sig .tc .vmem S4x768x1024 .f32) (harg5 : arg5.IsWhole) (arg6 : Memref sig .tc .vmem S4x1024 .f32) (harg6 : arg6.IsWhole) (arg7 : Memref sig .tc .vmem S768x1024 .bf16) (harg7 : arg7.IsWhole) (arg8 : Memref sig .tc .vmem S1x768 .f32) (harg8 : arg8.IsWhole) (arg9 : Memref sig .tc .vmem S4x768 .f32) (harg9 : arg9.IsWhole) (arg10 : Memref sig .tc .vmem S1x768 .f32) (harg10 : arg10.IsWhole) (arg11 : Memref sig .tc .vmem S256x768 .f32) (harg11 : arg11.IsWhole) (arg12 : Memref sig .tc .vmem S1024x2560 .bf16) (harg12 : arg12.IsWhole) (arg13 : Memref sig .tc .vmem S768x2560 .bf16) (harg13 : arg13.IsWhole) (hc0 : ¬cond0_0 i)
    (x0 : Vec F S2x2048 .f32) (x1 : Vec F S2x2048 .i32) (x2 : Vec F S4x256x1024 .f32) (x3 : Vec F S4x1024x1024 .f32) (x4 : Vec F S4x768x1024 .f32) (x5 : Vec F S4x1024 .f32) (x6 : Vec F S768x1024 .bf16) (x7 : Vec F S1x768 .f32) (x8 : Vec F S4x768 .f32) (x9 : Vec F S1x768 .f32) (xs0 : Vec F S1024x2560 .bf16) (xs1 : Vec F S768x2560 .bf16) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 xs1 = blk i x0 x1 x2 x5 x6 x7 x8 x9 xs0 xs1 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread]
  exact View.canon_unit_zero zero2 _ _

set_option maxHeartbeats 4000000 in
/-- At the first grid point, the body stores the block over the packed weights it has just written. -/
theorem out_A (c : Dev nD) (i : grid0.Coords) (arg1 : Memref sig .tc .vmem S2x2048 .f32) (harg1 : arg1.IsWhole) (arg2 : Memref sig .tc .vmem S2x2048 .i32) (harg2 : arg2.IsWhole) (arg3 : Memref sig .tc .vmem S4x256x1024 .f32) (harg3 : arg3.IsWhole) (arg4 : Memref sig .tc .vmem S4x1024x1024 .f32) (harg4 : arg4.IsWhole) (arg5 : Memref sig .tc .vmem S4x768x1024 .f32) (harg5 : arg5.IsWhole) (arg6 : Memref sig .tc .vmem S4x1024 .f32) (harg6 : arg6.IsWhole) (arg7 : Memref sig .tc .vmem S768x1024 .bf16) (harg7 : arg7.IsWhole) (arg8 : Memref sig .tc .vmem S1x768 .f32) (harg8 : arg8.IsWhole) (arg9 : Memref sig .tc .vmem S4x768 .f32) (harg9 : arg9.IsWhole) (arg10 : Memref sig .tc .vmem S1x768 .f32) (harg10 : arg10.IsWhole) (arg11 : Memref sig .tc .vmem S256x768 .f32) (harg11 : arg11.IsWhole) (arg12 : Memref sig .tc .vmem S1024x2560 .bf16) (harg12 : arg12.IsWhole) (arg13 : Memref sig .tc .vmem S768x2560 .bf16) (harg13 : arg13.IsWhole) (hc0 : cond0_0 i)
    (x0 : Vec F S2x2048 .f32) (x1 : Vec F S2x2048 .i32) (x2 : Vec F S4x256x1024 .f32) (x3 : Vec F S4x1024x1024 .f32) (x4 : Vec F S4x768x1024 .f32) (x5 : Vec F S4x1024 .f32) (x6 : Vec F S768x1024 .bf16) (x7 : Vec F S1x768 .f32) (x8 : Vec F S4x768 .f32) (x9 : Vec F S1x768 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = blk i x0 x1 x2 x5 x6 x7 x8 x9 (packH x3) (packR x4) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  simp only [View.readCov_eq_canon']
  exact View.canon_unit_zero zero2 _ _

set_option maxHeartbeats 4000000 in
/-- At the first grid point, the first carried array ends as the packed hidden weights. -/
theorem sout_A_0 (c : Dev nD) (i : grid0.Coords) (arg1 : Memref sig .tc .vmem S2x2048 .f32) (harg1 : arg1.IsWhole) (arg2 : Memref sig .tc .vmem S2x2048 .i32) (harg2 : arg2.IsWhole) (arg3 : Memref sig .tc .vmem S4x256x1024 .f32) (harg3 : arg3.IsWhole) (arg4 : Memref sig .tc .vmem S4x1024x1024 .f32) (harg4 : arg4.IsWhole) (arg5 : Memref sig .tc .vmem S4x768x1024 .f32) (harg5 : arg5.IsWhole) (arg6 : Memref sig .tc .vmem S4x1024 .f32) (harg6 : arg6.IsWhole) (arg7 : Memref sig .tc .vmem S768x1024 .bf16) (harg7 : arg7.IsWhole) (arg8 : Memref sig .tc .vmem S1x768 .f32) (harg8 : arg8.IsWhole) (arg9 : Memref sig .tc .vmem S4x768 .f32) (harg9 : arg9.IsWhole) (arg10 : Memref sig .tc .vmem S1x768 .f32) (harg10 : arg10.IsWhole) (arg11 : Memref sig .tc .vmem S256x768 .f32) (harg11 : arg11.IsWhole) (arg12 : Memref sig .tc .vmem S1024x2560 .bf16) (harg12 : arg12.IsWhole) (arg13 : Memref sig .tc .vmem S768x2560 .bf16) (harg13 : arg13.IsWhole) (hc0 : cond0_0 i)
    (x0 : Vec F S2x2048 .f32) (x1 : Vec F S2x2048 .i32) (x2 : Vec F S4x256x1024 .f32) (x3 : Vec F S4x1024x1024 .f32) (x4 : Vec F S4x768x1024 .f32) (x5 : Vec F S4x1024 .f32) (x6 : Vec F S768x1024 .bf16) (x7 : Vec F S1x768 .f32) (x8 : Vec F S4x768 .f32) (x9 : Vec F S1x768 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = packH x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  simp only [View.readAt_eq_ld, harg4.read_unread]
  rfl

set_option maxHeartbeats 4000000 in
/-- At the first grid point, the second carried array ends as the packed residual weights. -/
theorem sout_A_1 (c : Dev nD) (i : grid0.Coords) (arg1 : Memref sig .tc .vmem S2x2048 .f32) (harg1 : arg1.IsWhole) (arg2 : Memref sig .tc .vmem S2x2048 .i32) (harg2 : arg2.IsWhole) (arg3 : Memref sig .tc .vmem S4x256x1024 .f32) (harg3 : arg3.IsWhole) (arg4 : Memref sig .tc .vmem S4x1024x1024 .f32) (harg4 : arg4.IsWhole) (arg5 : Memref sig .tc .vmem S4x768x1024 .f32) (harg5 : arg5.IsWhole) (arg6 : Memref sig .tc .vmem S4x1024 .f32) (harg6 : arg6.IsWhole) (arg7 : Memref sig .tc .vmem S768x1024 .bf16) (harg7 : arg7.IsWhole) (arg8 : Memref sig .tc .vmem S1x768 .f32) (harg8 : arg8.IsWhole) (arg9 : Memref sig .tc .vmem S4x768 .f32) (harg9 : arg9.IsWhole) (arg10 : Memref sig .tc .vmem S1x768 .f32) (harg10 : arg10.IsWhole) (arg11 : Memref sig .tc .vmem S256x768 .f32) (harg11 : arg11.IsWhole) (arg12 : Memref sig .tc .vmem S1024x2560 .bf16) (harg12 : arg12.IsWhole) (arg13 : Memref sig .tc .vmem S768x2560 .bf16) (harg13 : arg13.IsWhole) (hc0 : cond0_0 i)
    (x0 : Vec F S2x2048 .f32) (x1 : Vec F S2x2048 .i32) (x2 : Vec F S4x256x1024 .f32) (x3 : Vec F S4x1024x1024 .f32) (x4 : Vec F S4x768x1024 .f32) (x5 : Vec F S4x1024 .f32) (x6 : Vec F S768x1024 .bf16) (x7 : Vec F S1x768 .f32) (x8 : Vec F S4x768 .f32) (x9 : Vec F S1x768 .f32) :
    sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = packR x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  simp only [View.readAt_eq_ld, harg5.read_unread]
  rfl

end Cert.KernelIdeal.Blk
-- ==== Proof.Row.lean ====
module

public import Idealize.ShloMosaic.Lib.Pointwise

/-! The arithmetic of one output row over the extended reals: the normalised slot weights, an expert's product over
its own features, the two orders in which the experts are mixed, and why they agree on finite experts. No program
is mentioned here. -/

@[expose] public section

noncomputable section

open Idealize.ShloMosaic

namespace Cert.Row

/-! ### Expert sizes and the two halves of the input -/

/-- The number of features of each expert in a half of the input. -/
def size : Fin 4 → ℕ := ![128, 256, 384, 512]

/-- Every expert reads at most 512 columns. -/
theorem size_le (e : Fin 4) : size e ≤ 512 := by
  fin_cases e <;> decide

/-- Feature `k` of the first half. -/
def low {e : Fin 4} (k : Fin (size e)) : Fin 1024 := ⟨k.val, by have := size_le e; omega⟩

/-- Feature `k` of the second half. -/
def high {e : Fin 4} (k : Fin (size e)) : Fin 1024 := ⟨512 + k.val, by have := size_le e; omega⟩

/-- The product of an input row and a weight row over expert `e`'s own features, one half after the other. -/
def part (e : Fin 4) (x w : Fin 1024 → EReal) : EReal :=
  ∑ k : Fin (size e), x (low k) * w (low k) + ∑ k : Fin (size e), x (high k) * w (high k)

/-- Expert `e`'s feature mask: one on its own features, zero on the others. -/
def maskAt (e : Fin 4) (q : Fin 1024) : EReal := if q.val % 512 < size e then 1 else 0

/-- A sum over `m` positions of a function that vanishes from `n` on is the sum over the first `n`. -/
theorem sum_prefix {m : ℕ} (f : Fin m → EReal) (n : ℕ) (hn : n ≤ m) (hf : ∀ k : Fin m, n ≤ k.val → f k = 0) :
    ∑ k, f k = ∑ k : Fin n, f ⟨k.val, by omega⟩ := by
  obtain ⟨d, rfl⟩ := Nat.exists_eq_add_of_le hn
  rw [Fin.sum_univ_add, Finset.sum_eq_zero (s := Finset.univ) (f := fun i : Fin d => f (Fin.natAdd n i)), add_zero]
  · rfl
  · intro i _
    exact hf _ (by simp)

/-- The full product with the masked weight row is the product over the expert's own features. -/
theorem masked_eq_part (e : Fin 4) (x w : Fin 1024 → EReal) :
    ∑ q, x q * (w q * maskAt e q) = part e x w := by
  have hs := size_le e
  rw [show (∑ q : Fin 1024, x q * (w q * maskAt e q)) = ∑ q : Fin (512 + 512), x q * (w q * maskAt e q) from rfl,
    Fin.sum_univ_add]
  unfold part
  congr 1
  · rw [sum_prefix _ (size e) hs]
    · refine Finset.sum_congr rfl fun k _ => ?_
      have hk : k.val % 512 < size e := by omega
      simp [maskAt, low, hk, Fin.castAdd, Fin.castLE]
    · intro k hk
      have hk' : ¬ k.val % 512 < size e := by omega
      simp [maskAt, hk']
  · rw [sum_prefix _ (size e) hs]
    · refine Finset.sum_congr rfl fun k _ => ?_
      have hk : (512 + k.val) % 512 < size e := by omega
      simp only [maskAt, high, Fin.natAdd, hk, if_true, mul_one]
    · intro k hk
      have hk' : ¬ (512 + k.val) % 512 < size e := by omega
      simp only [maskAt, Fin.natAdd, hk', if_false, mul_zero]

/-! ### Slot weights -/

/-- A truth bit as a number. -/
def flag (b : BitVec 1) : EReal := if b = 1#1 then 1 else 0

/-- A bit widened to a word and converted as a signed integer is its number. -/
theorem sitofp_flag (b : BitVec 1) : (FloatOps.sitofp FTy.f32 (BitVec.setWidth 32 b) : Ideal .f32) = flag b := by
  show (((BitVec.setWidth 32 b).toInt : ℝ) : EReal) = flag b
  obtain rfl | rfl : b = 0#1 ∨ b = 1#1 := by revert b; decide
  · simp [flag]
  · simp [flag]

/-- A bit converted as an unsigned integer is its number. -/
theorem uitofp_flag (b : BitVec 1) : (FloatOps.uitofp FTy.f32 b : Ideal .f32) = flag b := by
  show ((b.toNat : ℝ) : EReal) = flag b
  obtain rfl | rfl : b = 0#1 ∨ b = 1#1 := by revert b; decide
  · simp [flag]
  · simp [flag]

/-- The sum of the weights of the slots whose index is below the number of experts. -/
def raw (w : Fin 2 → EReal) (s : Fin 2 → BitVec 32) : EReal :=
  ∑ k, w k * flag (IntOp.cmpi .slt (s k) 4#32)

/-- That sum, or one where it is zero. -/
def total (w : Fin 2 → EReal) (s : Fin 2 → BitVec 32) : EReal := if raw w s = 0 then 1 else raw w s

/-- The normalised weight of slot `k`. -/
def share (w : Fin 2 → EReal) (s : Fin 2 → BitVec 32) (k : Fin 2) : EReal := Ideal.div (w k) (total w s)

/-- The weight of expert `e`: the normalised weights of the slots that name it. -/
def coef (w : Fin 2 → EReal) (s : Fin 2 → BitVec 32) (e : Fin 4) : EReal :=
  ∑ k, share w s k * flag (IntOp.cmpi .eq (s k) (BitVec.ofNat 32 e.val))

/-! ### The two orders of mixing -/

/-- Expert by expert: products by expert weights, then the biases by the expert weights. -/
def mixByExpert (c d b : Fin 4 → EReal) : EReal :=
  d 0 * c 0 + d 1 * c 1 + d 2 * c 2 + d 3 * c 3 + (c 0 * b 0 + c 1 * b 1 + c 2 * b 2 + c 3 * b 3)

/-- One term of the slot-by-slot mixture: expert `e`'s affine layer by slot `k`'s weight, where the slot names it. -/
def term (w : Fin 2 → EReal) (s : Fin 2 → BitVec 32) (d b : Fin 4 → EReal) (k : Fin 2) (e : Fin 4) : EReal :=
  if IntOp.andi (IntOp.cmpi .eq (s k) (BitVec.ofNat 32 e.val)) (IntOp.cmpi .slt (s k) 4#32) = 1#1
  then (d e + b e) * share w s k else 0

/-- Slot by slot, and within a slot expert by expert. -/
def mixBySlot (w : Fin 2 → EReal) (s : Fin 2 → BitVec 32) (d b : Fin 4 → EReal) : EReal :=
  term w s d b 0 0 + term w s d b 0 1 + term w s d b 0 2 + term w s d b 0 3
    + term w s d b 1 0 + term w s d b 1 1 + term w s d b 1 2 + term w s d b 1 3

/-- An extended real that is a real number. -/
def IsReal (x : EReal) : Prop := ∃ r : ℝ, x = r

/-- The sum of two finite numbers is finite. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two finite numbers is finite. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of finite numbers is finite. -/
theorem IsReal.sum {n : ℕ} {f : Fin n → EReal} (hf : ∀ k, IsReal (f k)) : IsReal (∑ k, f k) :=
  Finset.sum_induction f IsReal (fun _ _ => IsReal.add) ⟨0, rfl⟩ fun k _ => hf k

/-- If a sum of two extended reals is real, so is each of them. -/
theorem IsReal.of_add {x y : EReal} (h : IsReal (x + y)) : IsReal x ∧ IsReal y := by
  obtain ⟨r, h⟩ := h
  induction x using EReal.rec with
  | bot => simp at h
  | top =>
    induction y using EReal.rec with
    | bot => simp at h
    | top => simp at h
    | coe b => simp at h
  | coe a =>
    induction y using EReal.rec with
    | bot => simp at h
    | top => simp at h
    | coe b => exact ⟨⟨a, rfl⟩, ⟨b, rfl⟩⟩

/-- An expert's product of finite rows is finite. -/
theorem IsReal.part {e : Fin 4} {x w : Fin 1024 → EReal} (hx : ∀ q, IsReal (x q)) (hw : ∀ q, IsReal (w q)) :
    IsReal (part e x w) :=
  (IsReal.sum fun _ => (hx _).mul (hw _)).add (IsReal.sum fun _ => (hx _).mul (hw _))

/-- The number a row's weights are divided by is never zero. -/
theorem total_ne_zero (w : Fin 2 → EReal) (s : Fin 2 → BitVec 32) : total w s ≠ 0 := by
  unfold total
  split
  · exact one_ne_zero
  · assumption

/-- The normalised weight of a slot that counts towards the sum is finite, whatever the weights: an infinite sum
divides to zero, and a finite sum has finite summands. -/
theorem share_isReal (w : Fin 2 → EReal) (s : Fin 2 → BitVec 32) (k : Fin 2)
    (hk : IntOp.cmpi .slt (s k) 4#32 = 1#1) : IsReal (share w s k) := by
  have h0 := total_ne_zero w s
  unfold share Ideal.div
  rw [if_neg h0]
  by_cases hr : IsReal (raw w s)
  · have hw : IsReal (w k) := by
      have h2 := hr
      unfold raw at h2
      rw [Fin.sum_univ_two] at h2
      have h3 := h2.of_add
      have h4 : w k * flag (IntOp.cmpi .slt (s k) 4#32) = w k := by rw [hk]; simp [flag]
      rw [← h4]
      obtain rfl | rfl : k = 0 ∨ k = 1 := (by decide : ∀ k : Fin 2, k = 0 ∨ k = 1) k
      · exact h3.1
      · exact h3.2
    have ht : IsReal (total w s) := by
      unfold total
      split
      · exact ⟨1, rfl⟩
      · exact hr
    refine hw.mul ?_
    obtain ⟨t, ht⟩ := ht
    rw [ht]
    exact ⟨t⁻¹, (EReal.coe_inv t).symm⟩
  · have ht : total w s = raw w s := by
      unfold total
      rw [if_neg]
      intro h
      exact hr ⟨0, h⟩
    rw [ht]
    generalize raw w s = t at hr
    induction t using EReal.rec with
    | bot => rw [EReal.inv_bot, mul_zero]; exact ⟨0, rfl⟩
    | top => rw [EReal.inv_top, mul_zero]; exact ⟨0, rfl⟩
    | coe t => exact absurd ⟨t, rfl⟩ hr

/-- The weight slot `k` gives to expert `e`. -/
def give (w : Fin 2 → EReal) (s : Fin 2 → BitVec 32) (k : Fin 2) (e : Fin 4) : EReal :=
  if s k = BitVec.ofNat 32 e.val then share w s k else 0

/-- The word comparison for equality answers one exactly when the two words are equal. -/
theorem cmpi_eq_iff (a b : BitVec 32) : IntOp.cmpi .eq a b = 1#1 ↔ a = b := by
  simp only [IntOp.cmpi]
  by_cases h : a = b
  · simp [h]
  · rw [beq_eq_false_iff_ne.2 h]
    exact iff_of_false (by decide) h

/-- A slot that names one of the four experts has an index below four. -/
theorem slt_of_eq {a : BitVec 32} {e : Fin 4} (h : a = BitVec.ofNat 32 e.val) : IntOp.cmpi .slt a 4#32 = 1#1 := by
  subst h
  fin_cases e <;> decide

/-- What a slot gives to an expert is finite, whatever the weights are. -/
theorem give_isReal (w : Fin 2 → EReal) (s : Fin 2 → BitVec 32) (k : Fin 2) (e : Fin 4) : IsReal (give w s k e) := by
  unfold give
  split
  · exact share_isReal w s k (slt_of_eq ‹_›)
  · exact ⟨0, rfl⟩

/-- The weight of an expert in a row is the sum of what the two slots give it. -/
theorem coef_eq_give (w : Fin 2 → EReal) (s : Fin 2 → BitVec 32) (e : Fin 4) :
    coef w s e = give w s 0 e + give w s 1 e := by
  unfold coef
  rw [Fin.sum_univ_two]
  simp only [give, flag, cmpi_eq_iff, mul_ite, mul_one, mul_zero]

/-- The term of a slot and an expert is what the slot gives the expert times the product, plus it times the bias. -/
theorem term_eq_give (w : Fin 2 → EReal) (s : Fin 2 → BitVec 32) (d b : Fin 4 → EReal) (k : Fin 2) (e : Fin 4) :
    term w s d b k e = (d e + b e) * give w s k e := by
  unfold term give
  by_cases h : s k = BitVec.ofNat 32 e.val
  · rw [if_pos h, (cmpi_eq_iff _ _).2 h, slt_of_eq h, if_pos (by decide)]
  · have h1 : IntOp.cmpi .eq (s k) (BitVec.ofNat 32 e.val) = 0#1 := by
      simp only [IntOp.cmpi]
      rw [beq_eq_false_iff_ne.2 h]
      rfl
    rw [if_neg h, h1, mul_zero, if_neg]
    simp [IntOp.andi]

/-- On finite products and biases the two orders of mixing agree, whatever the weights and the indices. -/
theorem mixBySlot_eq (w : Fin 2 → EReal) (s : Fin 2 → BitVec 32) (d b : Fin 4 → EReal) (hd : ∀ e, IsReal (d e))
    (hb : ∀ e, IsReal (b e)) : mixBySlot w s d b = mixByExpert (coef w s) d b := by
  unfold mixBySlot mixByExpert
  simp only [term_eq_give, coef_eq_give]
  choose d' hd using hd
  choose b' hb using hb
  choose g' hg using give_isReal w s
  simp only [hd, hb, hg]
  norm_cast
  ring

/-! ### The output row -/

/-- The activation, in its tanh form. -/
def gelu (h : EReal) : EReal :=
  h * (Ideal.ofBits .f32 0x3F000000#32 * (1 + Ideal.tanh (Ideal.ofBits .f32 0x3F4C422A#32
    * (h + Ideal.ofBits .f32 0x3D372713#32 * (h * (h * h))))))

/-- The row before normalisation: output projection of the activated hidden row, bias, residual. -/
def pre (hid : Fin 1024 → EReal) (res : Fin 768 → EReal) (oW : Fin 768 → Fin 1024 → EReal) (ob : Fin 768 → EReal)
    (j : Fin 768) : EReal :=
  ∑ x, gelu (hid x) * oW j x + ob j + res j

/-- The output row: scaled to unit mean square, then by the layer's weights. -/
def row (hid : Fin 1024 → EReal) (res : Fin 768 → EReal) (oW : Fin 768 → Fin 1024 → EReal) (ob ln : Fin 768 → EReal)
    (j : Fin 768) : EReal :=
  pre hid res oW ob j
    * Ideal.rsqrt (Ideal.div (∑ x, pre hid res oW ob x * pre hid res oW ob x) (Ideal.ofBits .f32 0x44400000#32)
        + Ideal.ofBits .f32 0x358637BD#32)
    * ln j

end Cert.Row
-- ==== Proof.Tile.lean ====
module

public import proofs.«01_k».proof.Proof.Blk
public import proofs.«01_k».proof.Proof.Row
public import Idealize.ShloMosaic.Lib.Pointwise
public import Idealize.ShloMosaic.Lib.Tactic.ValueTie
public import Idealize.ShloMosaic.Lib.Pipeline.ValueKit

/-! The kernel's output block read at one row and column, over exact arithmetic. -/

@[expose] public section

set_option maxRecDepth 16384

noncomputable section

open Idealize.ShloMosaic Idealize.ShloMosaic.TcCoe Idealize.SL.Sem

namespace Cert.KernelIdeal.Blk

open Cert.KernelIdeal Cert.KernelIdeal.Gen

/-- Which expert column `q` of a packed weight array belongs to. -/
def bandE (q : ℕ) : Fin 4 := if q < 256 then 0 else if q < 768 then 1 else if q < 1536 then 2 else 3

/-- Which feature column `q` of a packed weight array holds. -/
def bandC (q : ℕ) : ℕ :=
  if q < 128 then q else if q < 256 then 384 + q else if q < 512 then q - 256 else if q < 768 then q
  else if q < 1152 then q - 768 else if q < 1536 then q - 640 else if q < 2048 then q - 1536 else q - 1536

/-- The column of `x` that a packed column reads is within the 1024 columns. -/
theorem bandC_lt (q : Fin 2560) : bandC q.val < 1024 := by
  unfold bandC
  split_ifs <;> omega

/-- Two indices of a stack of matrices with the same row agree when their other two coordinates do. -/
theorem ix3_eq {n m k : ℕ} {e e' : Fin n} (a : Fin m) {c c' : Fin k} (he : e = e') (hc : c.val = c'.val) :
    (ix3 e a c) = ix3 e' a c' := by
  rw [he, Fin.ext hc]

/-- The packed hidden weights hold each expert's own columns side by side. -/
theorem packH_apply (x3 : Vec Ideal S4x1024x1024 .f32) (j : Fin 1024) (q : Fin 2560) :
    packH x3 (ix2 j q) = x3 (ix3 (bandE q.val) j ⟨bandC q.val, bandC_lt q⟩) := by
  have hc := View.cover_of_tiledBy (piecesH x3) ![1024, 128] (by sl_kernel_rfl) (ix2 j q)
  unfold packH piecesH
  canon_tiles x h using hc
  all_goals
    obtain ⟨a, b, rfl⟩ : ∃ a b, x = ix2 a b := ⟨x 0, x 1, by funext i; fin_cases i <;> rfl⟩
    obtain rfl : j = a := Fin.ext h0
    have hq : ((ix2 j q 1 : Fin _) : ℕ) = q.val := rfl
    have hb : ((ix2 j b 1 : Fin _) : ℕ) = b.val := rfl
    pointwise [k0_pay16, k0_pay14, k0_pay12, k0_pay10, k0_pay8, k0_pay6, k0_pay4, k0_pay2]
    refine congrArg x3 (ix3_eq j ?_ ?_)
    · unfold bandE
      split_ifs <;> first | rfl | (exfalso; omega)
    · dsimp only
      unfold bandC
      split_ifs <;> omega

/-- The packed residual weights hold each expert's own columns side by side. -/
theorem packR_apply (x4 : Vec Ideal S4x768x1024 .f32) (j : Fin 768) (q : Fin 2560) :
    packR x4 (ix2 j q) = x4 (ix3 (bandE q.val) j ⟨bandC q.val, bandC_lt q⟩) := by
  have hc := View.cover_of_tiledBy (piecesR x4) ![768, 128] (by sl_kernel_rfl) (ix2 j q)
  unfold packR piecesR
  canon_tiles x h using hc
  all_goals
    obtain ⟨a, b, rfl⟩ : ∃ a b, x = ix2 a b := ⟨x 0, x 1, by funext i; fin_cases i <;> rfl⟩
    obtain rfl : j = a := Fin.ext h0
    have hq : ((ix2 j q 1 : Fin _) : ℕ) = q.val := rfl
    have hb : ((ix2 j b 1 : Fin _) : ℕ) = b.val := rfl
    pointwise [k0_pay17, k0_pay15, k0_pay13, k0_pay11, k0_pay9, k0_pay7, k0_pay5, k0_pay3]
    refine congrArg x4 (ix3_eq j ?_ ?_)
    · unfold bandE
      split_ifs <;> first | rfl | (exfalso; omega)
    · dsimp only
      unfold bandC
      split_ifs <;> omega

/-- The first expert weight of a block's row. -/
theorem coef0 (v5 : Vec Ideal S2x256 .f32) (v9 : Vec Ideal S2x256 .i32) (r : Fin 256) (q : Fin 1) :
    k0_pay22 v5 v9 (ix2 r q) = Row.coef (fun k => v5 (ix2 k r)) (fun k => v9 (ix2 k r)) 0 := by
  pointwise [k0_pay22, k0_pay19, k0_pay18]
  simp only [Row.sitofp_flag]
  rfl

/-- The weights of the other experts of a block's row. -/
theorem coef1 (v5 : Vec Ideal S2x256 .f32) (v9 : Vec Ideal S2x256 .i32) (r : Fin 256) (q : Fin 1) :
    k0_pay29 (k0_pay18 v9) (k0_pay19 v5 v9) (ix2 r q) = Row.coef (fun k => v5 (ix2 k r)) (fun k => v9 (ix2 k r)) 1 := by
  pointwise [k0_pay29, k0_pay19, k0_pay18]
  simp only [Row.sitofp_flag]
  rfl

/-- Likewise for the third expert. -/
theorem coef2 (v5 : Vec Ideal S2x256 .f32) (v9 : Vec Ideal S2x256 .i32) (r : Fin 256) (q : Fin 1) :
    k0_pay36 (k0_pay18 v9) (k0_pay19 v5 v9) (ix2 r q) = Row.coef (fun k => v5 (ix2 k r)) (fun k => v9 (ix2 k r)) 2 := by
  pointwise [k0_pay36, k0_pay19, k0_pay18]
  simp only [Row.sitofp_flag]
  rfl

/-- Likewise for the fourth expert. -/
theorem coef3 (v5 : Vec Ideal S2x256 .f32) (v9 : Vec Ideal S2x256 .i32) (r : Fin 256) (q : Fin 1) :
    k0_pay43 (k0_pay18 v9) (k0_pay19 v5 v9) (ix2 r q) = Row.coef (fun k => v5 (ix2 k r)) (fun k => v9 (ix2 k r)) 3 := by
  pointwise [k0_pay43, k0_pay19, k0_pay18]
  simp only [Row.sitofp_flag]
  rfl

/-- The kernel reads each expert's columns of a packed array in two runs; the sums over them of products with an
input row are the expert's product. -/
theorem part_packed (x w : Fin 4 → Fin 1024 → EReal) (p : Fin 2560 → EReal)
    (hp : ∀ q : Fin 2560, p q = w (bandE q.val) ⟨bandC q.val, bandC_lt q⟩) :
    (∑ k : Fin 128, x 0 ⟨k.val, by omega⟩ * p ⟨k.val, by omega⟩
      + ∑ k : Fin 128, x 0 ⟨512 + k.val, by omega⟩ * p ⟨128 + k.val, by omega⟩ = Row.part 0 (x 0) (w 0)) ∧
    (∑ k : Fin 256, x 1 ⟨k.val, by omega⟩ * p ⟨256 + k.val, by omega⟩
      + ∑ k : Fin 256, x 1 ⟨512 + k.val, by omega⟩ * p ⟨512 + k.val, by omega⟩ = Row.part 1 (x 1) (w 1)) ∧
    (∑ k : Fin 384, x 2 ⟨k.val, by omega⟩ * p ⟨768 + k.val, by omega⟩
      + ∑ k : Fin 384, x 2 ⟨512 + k.val, by omega⟩ * p ⟨1152 + k.val, by omega⟩ = Row.part 2 (x 2) (w 2)) ∧
    (∑ k : Fin 512, x 3 ⟨k.val, by omega⟩ * p ⟨1536 + k.val, by omega⟩
      + ∑ k : Fin 512, x 3 ⟨512 + k.val, by omega⟩ * p ⟨2048 + k.val, by omega⟩ = Row.part 3 (x 3) (w 3)) := by
  have hw : ∀ (e e' : Fin 4) (c c' : Fin 1024), e' = e → c'.val = c.val → w e' c' = w e c := by
    rintro e e' c c' rfl h
    rw [Fin.ext h]
  simp only [hp]
  refine ⟨congrArg₂ (· + ·) ?_ ?_, congrArg₂ (· + ·) ?_ ?_, congrArg₂ (· + ·) ?_ ?_, congrArg₂ (· + ·) ?_ ?_⟩
  all_goals
    refine Finset.sum_congr rfl fun k _ => congrArg₂ (· * ·) rfl (hw _ _ _ _ ?_ ?_)
    · have hk : k.val < _ := k.isLt
      unfold bandE
      split_ifs <;> first | rfl | (exfalso; omega)
    · have hk : k.val < _ := k.isLt
      simp only [bandC, Row.low, Row.high]
      split_ifs <;> omega

set_option maxHeartbeats 4000000 in
/-- The hidden activations of a block at row `r` and feature `j`: the activation of the mixture, expert by expert. -/
theorem hidB_apply (v5 : Vec Ideal S2x256 .f32) (v9 : Vec Ideal S2x256 .i32) (x2 : Vec Ideal S4x256x1024 .f32)
    (x3 : Vec Ideal S4x1024x1024 .f32) (x5 : Vec Ideal S4x1024 .f32) (r : Fin 256) (j : Fin 1024) :
    hidB v5 v9 x2 (packH x3) x5 (ix2 r j) = Row.gelu (Row.mixByExpert (Row.coef (fun k => v5 (ix2 k r)) (fun k => v9 (ix2 k r)))
      (fun e => Row.part e (fun k => x2 (ix3 e r k)) (fun k => x3 (ix3 e j k))) (fun e => x5 (ix2 e j))) := by
  obtain ⟨p0, p1, p2, p3⟩ := part_packed (fun e k => x2 (ix3 e r k)) (fun e k => x3 (ix3 e j k))
    (fun q => packH x3 (ix2 j q)) (packH_apply x3 j)
  have c0 := coef0 v5 v9 r
  have c1 := coef1 v5 v9 r
  have c2 := coef2 v5 v9 r
  have c3 := coef3 v5 v9 r
  unfold hidB
  generalize k0_pay22 (F := Ideal) v5 v9 = d0 at c0 ⊢
  generalize k0_pay29 (F := Ideal) _ _ = d1 at c1 ⊢
  generalize k0_pay36 (F := Ideal) _ _ = d2 at c2 ⊢
  generalize k0_pay43 (F := Ideal) _ _ = d3 at c3 ⊢
  generalize packH x3 = xs at p0 p1 p2 p3 ⊢
  pointwise [k0_pay50, k0_pay41, k0_pay34, k0_pay27, k0_pay20, k0_pay23, k0_pay25, k0_pay26, k0_pay30, k0_pay32, k0_pay33, k0_pay39, k0_pay38, k0_pay40, k0_pay46, k0_pay45, k0_pay47, k0_pay48]
  simp only [c0, c1, c2, c3, p0, p1, p2, p3, Fin.sum_univ_four]
  rfl

set_option maxHeartbeats 4000000 in
/-- The residual part of a block at row `r` and feature `j`: the mixture, expert by expert. -/
theorem resB_apply (v5 : Vec Ideal S2x256 .f32) (v9 : Vec Ideal S2x256 .i32) (x2 : Vec Ideal S4x256x1024 .f32)
    (x3 : Vec Ideal S4x768x1024 .f32) (x5 : Vec Ideal S4x768 .f32) (r : Fin 256) (j : Fin 768) :
    resB v5 v9 x2 (packR x3) x5 (ix2 r j) = Row.mixByExpert (Row.coef (fun k => v5 (ix2 k r)) (fun k => v9 (ix2 k r)))
      (fun e => Row.part e (fun k => x2 (ix3 e r k)) (fun k => x3 (ix3 e j k))) (fun e => x5 (ix2 e j)) := by
  obtain ⟨p0, p1, p2, p3⟩ := part_packed (fun e k => x2 (ix3 e r k)) (fun e k => x3 (ix3 e j k))
    (fun q => packR x3 (ix2 j q)) (packR_apply x3 j)
  have c0 := coef0 v5 v9 r
  have c1 := coef1 v5 v9 r
  have c2 := coef2 v5 v9 r
  have c3 := coef3 v5 v9 r
  unfold resB
  generalize k0_pay22 (F := Ideal) v5 v9 = d0 at c0 ⊢
  generalize k0_pay29 (F := Ideal) _ _ = d1 at c1 ⊢
  generalize k0_pay36 (F := Ideal) _ _ = d2 at c2 ⊢
  generalize k0_pay43 (F := Ideal) _ _ = d3 at c3 ⊢
  generalize packR x3 = xs at p0 p1 p2 p3 ⊢
  pointwise [k0_pay49, k0_pay42, k0_pay35, k0_pay28, k0_pay21, k0_pay24, k0_pay25, k0_pay26, k0_pay31, k0_pay32, k0_pay33, k0_pay37, k0_pay38, k0_pay40, k0_pay44, k0_pay45, k0_pay47, k0_pay48]
  simp only [c0, c1, c2, c3, p0, p1, p2, p3, Fin.sum_univ_four]
  rfl

/-- The first row of grid point `i`'s block, as the kernel's index arithmetic computes it. -/
theorem start_eq : ∀ a : Fin 8,
    BitVec.toNat (Scalar.indexCast (Scalar.muli (BitVec.ofNat 32 a.val) 256#32)) = 256 * a.val := by
  decide

/-- Row `r` of grid point `i`'s block, as a row of the array. -/
def glob (i : grid0.Coords) (r : Fin 256) : Fin 2048 := ⟨256 * (i 0).val + r.val, by have : (i 0).val < 8 := (i 0).isLt; omega⟩

/-- The columns of grid point `i`, at an index. -/
theorem cols_apply {e : EltTy} (i : grid0.Coords) (x : Vec Ideal S2x2048 e) (k : Fin 2) (r : Fin 256) :
    cols i x (ix2 k r) = x (ix2 k (glob i r)) := by
  unfold cols
  pointwise [k0_off1]
  refine congrArg x (congrArg (ix2 k) (Fin.ext ?_))
  show _ + r.val = 256 * (i 0).val + r.val
  exact congrArg (· + r.val) (start_eq (i 0))

set_option maxHeartbeats 4000000 in
/-- The output block of grid point `i` at row `r` and column `j`: the output row of the two mixtures. -/
theorem blk_apply (i : grid0.Coords) (x0 : Vec Ideal S2x2048 .f32) (x1 : Vec Ideal S2x2048 .i32)
    (x2 : Vec Ideal S4x256x1024 .f32) (x3 : Vec Ideal S4x1024x1024 .f32) (x4 : Vec Ideal S4x768x1024 .f32)
    (x5 : Vec Ideal S4x1024 .f32) (x6 : Vec Ideal S768x1024 .bf16) (x7 : Vec Ideal S1x768 .f32) (x8 : Vec Ideal S4x768 .f32)
    (x9 : Vec Ideal S1x768 .f32) (r : Fin 256) (j : Fin 768) :
    blk i x0 x1 x2 x5 x6 x7 x8 x9 (packH x3) (packR x4) (ix2 r j) =
      Row.row
        (fun x => Row.mixByExpert (Row.coef (fun k => x0 (ix2 k (glob i r))) (fun k => x1 (ix2 k (glob i r))))
          (fun e => Row.part e (fun k => x2 (ix3 e r k)) (fun k => x3 (ix3 e x k))) (fun e => x5 (ix2 e x)))
        (fun x => Row.mixByExpert (Row.coef (fun k => x0 (ix2 k (glob i r))) (fun k => x1 (ix2 k (glob i r))))
          (fun e => Row.part e (fun k => x2 (ix3 e r k)) (fun k => x4 (ix3 e x k))) (fun e => x8 (ix2 e x)))
        (fun y x => x6 (ix2 y x)) (fun y => x7 (ix2 0 y)) (fun y => x9 (ix2 0 y)) j := by
  have hh := fun x => hidB_apply (cols i x0) (cols i x1) x2 x3 x5 r x
  have hr := fun x => resB_apply (cols i x0) (cols i x1) x2 x4 x8 r x
  simp only [cols_apply] at hh hr
  unfold blk
  generalize hidB (F := Ideal) _ _ _ _ _ = h at hh ⊢
  generalize resB (F := Ideal) _ _ _ _ _ = s at hr ⊢
  pointwise [k0_pay1]
  simp only [hh, hr]
  rfl

end Cert.KernelIdeal.Blk
-- ==== Proof.KVal.lean ====
module

public import proofs.«01_k».proof.Proof.Tile
public import Idealize.ShloMosaic.Lib.Pipeline.ValueKit.Point

/-! What the kernel's output array holds at a row and a column, from the arguments. -/

@[expose] public section

set_option maxRecDepth 16384

noncomputable section

open Idealize.ShloMosaic Idealize.ShloMosaic.TcCoe Idealize.SL.Sem

namespace Cert.KernelIdeal.KVal

open Cert.KernelIdeal Cert.KernelIdeal.Gen Cert.KernelIdeal.Value Cert.KernelIdeal.Blk

variable (m : (ℓ : Loc nD τ sig) → Buf (Elt Ideal) ℓ)

/-- The block each window reads at grid point `t`: the activations' window moves by rows, the others stay. -/
theorem idx : ∀ t : Fin cfg0.N, win0_0.index t = ![0, 0] ∧ win0_1.index t = ![0, 0] ∧ win0_2.index t = ![0, t.val, 0]
    ∧ win0_3.index t = ![0, 0, 0] ∧ win0_4.index t = ![0, 0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The grid has one axis: a point's coordinate is its number. -/
theorem coord : ∀ t : Fin cfg0.N, (grid0.coords t 0).val = t.val :=
  (by decide +kernel : ∀ t : Fin grid0.N, _)

/-- There are eight grid points. -/
theorem N8 (t : Fin cfg0.N) : t.val < 8 := lt_of_lt_of_eq t.isLt N_0

/-- The expert weights, transposed before the launch: every point reads the whole table. -/
theorem read0 (c : Dev nD) (t : Fin cfg0.N) (k : Fin 2) (q : Fin 2048) :
    iblk m c 0 t (ix2 k q) = m ((c : Thread nD τ).loc main_arg2) (ix2 q k) := by
  blk_ext! [iblk, V, idx t]

/-- The expert indices, transposed likewise. -/
theorem read1 (c : Dev nD) (t : Fin cfg0.N) (k : Fin 2) (q : Fin 2048) :
    iblk m c 1 t (ix2 k q) = m ((c : Thread nD τ).loc main_arg3) (ix2 q k) := by
  blk_ext! [iblk, V, idx t]

/-- The activations: point `t` reads the rows of its own block. -/
theorem read2 (c : Dev nD) (t : Fin cfg0.N) (e : Fin 4) (r : Fin 256) (k : Fin 1024) :
    iblk m c 2 t (ix3 e r k) = m ((c : Thread nD τ).loc main_arg4) (ix3 e (glob (grid0.coords t) r) k) := by
  have h := coord t
  unfold glob
  blk_ext! [iblk, V, idx t]

/-- The hidden weights, whole. -/
theorem read3 (c : Dev nD) (t : Fin cfg0.N) : iblk m c 3 t = m ((c : Thread nD τ).loc main_arg5) := by
  blk_ext! [iblk, V, idx t]

/-- The residual weights, whole. -/
theorem read4 (c : Dev nD) (t : Fin cfg0.N) : iblk m c 4 t = m ((c : Thread nD τ).loc main_arg9) := by
  blk_ext! [iblk, V, idx t]

/-- The hidden biases, whole. -/
theorem read5 (c : Dev nD) (t : Fin cfg0.N) : iblk m c 5 t = m ((c : Thread nD τ).loc main_arg6) := by
  blk_ext! [iblk, V, idx t]

/-- The output weights, whole. -/
theorem read6 (c : Dev nD) (t : Fin cfg0.N) (j : Fin 768) (k : Fin 1024) :
    iblk m c 6 t (ix2 j k) = m ((c : Thread nD τ).loc main_arg7) (ix2 j k) := by
  blk_ext! [iblk, V, idx t]

/-- The output bias, reshaped to one row before the launch. -/
theorem read7 (c : Dev nD) (t : Fin cfg0.N) (j : Fin 768) :
    iblk m c 7 t (ix2 0 j) = m ((c : Thread nD τ).loc main_arg8) (ix1 j) := by
  blk_ext! [iblk, V, idx t]

/-- The residual biases, whole. -/
theorem read8 (c : Dev nD) (t : Fin cfg0.N) : iblk m c 8 t = m ((c : Thread nD τ).loc main_arg10) := by
  blk_ext! [iblk, V, idx t]

/-- The normalisation weights, reshaped to one row before the launch. -/
theorem read9 (c : Dev nD) (t : Fin cfg0.N) (j : Fin 768) :
    iblk m c 9 t (ix2 0 j) = m ((c : Thread nD τ).loc main_arg11) (ix1 j) := by
  blk_ext! [iblk, V, idx t]

/-- What a point leaves: its output block over the packed weights, and the packed weights for the next point. -/
def left (c : Dev nD) (t : Fin cfg0.N) :
    Vec Ideal S256x768 .f32 × Vec Ideal S1024x2560 .bf16 × Vec Ideal S768x2560 .bf16 :=
  (blk (grid0.coords t) (iblk m c 0 t) (iblk m c 1 t) (iblk m c 2 t) (iblk m c 5 t) (iblk m c 6 t) (iblk m c 7 t)
      (iblk m c 8 t) (iblk m c 9 t) (packH (m ((c : Thread nD τ).loc main_arg5))) (packR (m ((c : Thread nD τ).loc main_arg9))),
    packH (m ((c : Thread nD τ).loc main_arg5)), packR (m ((c : Thread nD τ).loc main_arg9)))

/-- The first point packs the weights itself. -/
theorem step_first (c : Dev nD) (t : Fin cfg0.N) (h : t.val % 8 = 0)
    (acc : Vec Ideal S256x768 .f32 × Vec Ideal S1024x2560 .bf16 × Vec Ideal S768x2560 .bf16) :
    stAt0 m c t.val t.isLt acc = left m c t := by
  rw [stAt0_A m c t acc h]
  unfold left
  refine congrArg₂ Prod.mk ?_ (congrArg₂ Prod.mk ?_ ?_)
  · rw [out_A, read3, read4]
  · rw [sout_A_0, read3]
  · rw [sout_A_1, read4]

/-- A later point finds the packed weights and leaves them. -/
theorem step_later (c : Dev nD) (t : Fin cfg0.N) (h : ¬t.val % 8 = 0)
    (acc : Vec Ideal S256x768 .f32 × Vec Ideal S1024x2560 .bf16 × Vec Ideal S768x2560 .bf16)
    (h0 : acc.2.1 = packH (m ((c : Thread nD τ).loc main_arg5)))
    (h1 : acc.2.2 = packR (m ((c : Thread nD τ).loc main_arg9))) :
    stAt0 m c t.val t.isLt acc = left m c t := by
  rw [stAt0_B m c t acc h]
  unfold left
  refine congrArg₂ Prod.mk ?_ (congrArg₂ Prod.mk ?_ ?_)
  · rw [out_B, h0, h1]
  · exact h0
  · exact h1

/-- After every point the carried arrays are the packed weights and the output block is over them. -/
theorem outs (c : Dev nD) : ∀ (n : ℕ) (hn : n < cfg0.N), outsAt0 m c n hn = left m c ⟨n, hn⟩
  | 0, hn => (outsAt0_zero m c hn).trans (step_first m c ⟨0, hn⟩ (Nat.zero_mod _) _)
  | n + 1, hn => by
    have ih := outs c n (Nat.lt_of_succ_lt hn)
    rw [outsAt0_succ]
    refine step_later m c ⟨n + 1, hn⟩ ?_ _ ?_ ?_
    · have := N8 ⟨n + 1, hn⟩
      dsimp only at this ⊢
      omega
    · rw [ih, left]
    · rw [ih, left]

/-- The output array at row `R` and column `j`. -/
theorem value (c : Dev nD) (R : Fin 2048) (j : Fin 768) :
    G10 m c (ix2 R j) =
      Row.row
        (fun x => Row.mixByExpert
          (Row.coef (fun k => m ((c : Thread nD τ).loc main_arg2) (ix2 R k)) (fun k => m ((c : Thread nD τ).loc main_arg3) (ix2 R k)))
          (fun e => Row.part e (fun k => m ((c : Thread nD τ).loc main_arg4) (ix3 e R k))
            (fun k => m ((c : Thread nD τ).loc main_arg5) (ix3 e x k)))
          (fun e => m ((c : Thread nD τ).loc main_arg6) (ix2 e x)))
        (fun x => Row.mixByExpert
          (Row.coef (fun k => m ((c : Thread nD τ).loc main_arg2) (ix2 R k)) (fun k => m ((c : Thread nD τ).loc main_arg3) (ix2 R k)))
          (fun e => Row.part e (fun k => m ((c : Thread nD τ).loc main_arg4) (ix3 e R k))
            (fun k => m ((c : Thread nD τ).loc main_arg9) (ix3 e x k)))
          (fun e => m ((c : Thread nD τ).loc main_arg10) (ix2 e x)))
        (fun y x => m ((c : Thread nD τ).loc main_arg7) (ix2 y x)) (fun y => m ((c : Thread nD τ).loc main_arg8) (ix1 y))
        (fun y => m ((c : Thread nD τ).loc main_arg11) (ix1 y)) j := by
  have hp : pt10Of (ix2 R j) = R.val / 256 := by
    show 1 * (R.val / 256 - 0) + 1 * (j.val / 768 - 0) = R.val / 256
    omega
  have hlt : pt10Of (ix2 R j) < cfg0.N := by
    rw [hp, show cfg0.N = 8 from N_0]
    omega
  have hl : loc10Of (ix2 R j) = ix2 (⟨R.val % 256, Nat.mod_lt _ (by decide)⟩ : Fin 256) j := by
    funext a
    refine Fin.ext ?_
    fin_cases a
    · rfl
    · exact Nat.mod_eq_of_lt j.isLt
  have hg : glob (grid0.coords ⟨pt10Of (ix2 R j), hlt⟩) (⟨R.val % 256, Nat.mod_lt _ (by decide)⟩ : Fin 256) = R := by
    refine Fin.ext ?_
    show 256 * (grid0.coords ⟨pt10Of (ix2 R j), hlt⟩ 0).val + R.val % 256 = R.val
    rw [coord]
    show 256 * pt10Of (ix2 R j) + R.val % 256 = R.val
    rw [hp]
    omega
  unfold G10
  rw [dif_pos hlt, ← outsAt0_sweep m c _ hlt, outs, hl]
  unfold left
  dsimp only
  rw [blk_apply, hg]
  simp only [read0, read1, read2, read5, read6, read7, read8, read9, hg]

end Cert.KernelIdeal.KVal
-- ==== Proof.Ref.lean ====
module

public import proofs.«01_k».proof.Proof.Gen.ReferenceIdeal.Read
public import proofs.«01_k».proof.Proof.Row
public import Idealize.ShloMosaic.Lib.Pointwise
public import Idealize.ShloMosaic.Lib.Tactic.ValueTie

/-! What the reference computes: its two mixtures of expert layers as chains of eight terms of one shape, one per
slot and expert, and its output row. -/

@[expose] public section

set_option maxRecDepth 16384

noncomputable section

open Idealize.ShloMosaic Idealize.ShloMosaic.TcCoe Idealize.SL.Sem

namespace Cert.ReferenceIdeal.Mix

open Cert.ReferenceIdeal Cert.ReferenceIdeal.Gen Cert.ReferenceIdeal.Read

variable {F : FTy → Type} [FloatOps F]

/-- Where an expert index (of one slot, per token) is the real expert `e`. -/
def sel (e : BitVec 32) (s : IVec S2048 32) : IVec S2048 1 :=
  andi (cmpi .eq s (broadcastInDim S2048 ![] bcast_S_S2048 (constantI S_ 32 e)))
    (cmpi .slt s (broadcastInDim S2048 ![] bcast_S_S2048 (constantI S_ 32 4#32)))

/-- The mask of the first `n` features, once per half of the input. -/
def mask (n : BitVec 32) : FVec F S1024 .f32 :=
  concatenate S1024 0
    [⟨S512, uitofp .f32 (cmpi .slt (iotaInDim S512 32 0) (broadcastInDim S512 ![] bcast_S_S512 (constantI S_ 32 n)))⟩,
     ⟨S512, uitofp .f32 (cmpi .slt (iotaInDim S512 32 0) (broadcastInDim S512 ![] bcast_S_S512 (constantI S_ 32 n)))⟩]
    concatenates_S512_S512_S1024_d0

/-- One term of the hidden mixture: one expert's affine layer, weighted, where selected; zero elsewhere. -/
def termH (X : FVec F S1x2048x1024 .f32) (W : FVec F S1x1024x1024 .f32) (b : FVec F S1x1024 .f32)
    (mk : FVec F S1024 .f32) (sl : IVec S2048 1) (w : FVec F S2048 .f32) : FVec F S2048x1024 .f32 :=
  select
    (broadcastInDim S2048x1024 ![0, 1] bcast_S2048x1_S2048x1024_0_1
      (broadcastInDim S2048x1 ![0] bcast_S2048_S2048x1_0 sl))
    (mulf
      (addf
        (Host.dotGeneral dot_S2048x1024_S1024x1024_S2048x1024_1_0_0_1_n_n none
          (shapeCast _ X shapeCasts_S1x2048x1024_S2048x1024)
          (transpose S1024x1024 [1, 0]
            (mulf (shapeCast _ W shapeCasts_S1x1024x1024_S1024x1024)
              (broadcastInDim S1024x1024 ![0, 1] bcast_S1x1024_S1024x1024_0_1
                (broadcastInDim S1x1024 ![1] bcast_S1024_S1x1024_1 mk)))
            transposes_S1024x1024_S1024x1024_1_0))
        (broadcastInDim S2048x1024 ![0, 1] bcast_S1x1024_S2048x1024_0_1
          (broadcastInDim S1x1024 ![1] bcast_S1024_S1x1024_1 (shapeCast _ b shapeCasts_S1x1024_S1024))))
      (broadcastInDim S2048x1024 ![0, 1] bcast_S2048x1_S2048x1024_0_1
        (broadcastInDim S2048x1 ![0] bcast_S2048_S2048x1_0 w)))
    (broadcastInDim S2048x1024 ![] bcast_S_S2048x1024 (id (constant S_ .f32 0x00000000#32)))

/-- One term of the residual mixture. -/
def termR (X : FVec F S1x2048x1024 .f32) (W : FVec F S1x768x1024 .f32) (b : FVec F S1x768 .f32)
    (mk : FVec F S1024 .f32) (sl : IVec S2048 1) (w : FVec F S2048 .f32) : FVec F S2048x768 .f32 :=
  select
    (broadcastInDim S2048x768 ![0, 1] bcast_S2048x1_S2048x768_0_1
      (broadcastInDim S2048x1 ![0] bcast_S2048_S2048x1_0 sl))
    (mulf
      (addf
        (Host.dotGeneral dot_S2048x1024_S1024x768_S2048x768_1_0_0_1_n_n none
          (shapeCast _ X shapeCasts_S1x2048x1024_S2048x1024)
          (transpose S1024x768 [1, 0]
            (mulf (shapeCast _ W shapeCasts_S1x768x1024_S768x1024)
              (broadcastInDim S768x1024 ![0, 1] bcast_S1x1024_S768x1024_0_1
                (broadcastInDim S1x1024 ![1] bcast_S1024_S1x1024_1 mk)))
            transposes_S768x1024_S1024x768_1_0))
        (broadcastInDim S2048x768 ![0, 1] bcast_S1x768_S2048x768_0_1
          (broadcastInDim S1x768 ![1] bcast_S768_S1x768_1 (shapeCast _ b shapeCasts_S1x768_S768))))
      (broadcastInDim S2048x768 ![0, 1] bcast_S2048x1_S2048x768_0_1
        (broadcastInDim S2048x1 ![0] bcast_S2048_S2048x1_0 w)))
    (broadcastInDim S2048x768 ![] bcast_S_S2048x768 (id (constant S_ .f32 0x00000000#32)))

/-- The first slot's expert indices. -/
def idx0 (x3 : IVec S2048x2 32) : IVec S2048 32 :=
  shapeCast _ (extractStridedSlice S2048x1 ![0, 0] x3 slices_S2048x2_S2048x1_0_0) shapeCasts_S2048x1_S2048

/-- The second slot's expert indices. -/
def idx1 (x3 : IVec S2048x2 32) : IVec S2048 32 :=
  shapeCast _ (extractStridedSlice S2048x1 ![0, 1] x3 slices_S2048x2_S2048x1_0_1) shapeCasts_S2048x1_S2048

/-- The first slot's weights, divided by the sum of the real slots' weights. -/
def wt0 (x2 : FVec F S2048x2 .f32) (x3 : IVec S2048x2 32) : FVec F S2048 .f32 :=
  Host.divf (shapeCast _ (extractStridedSlice S2048x1 ![0, 0] x2 slices_S2048x2_S2048x1_0_0) shapeCasts_S2048x1_S2048)
    (shapeCast _ (val_main_v29 (F := F) x2 x3) shapeCasts_S2048x1_S2048)

/-- The second slot's weights, divided by the sum of the real slots' weights. -/
def wt1 (x2 : FVec F S2048x2 .f32) (x3 : IVec S2048x2 32) : FVec F S2048 .f32 :=
  Host.divf (shapeCast _ (extractStridedSlice S2048x1 ![0, 1] x2 slices_S2048x2_S2048x1_0_1) shapeCasts_S2048x1_S2048)
    (shapeCast _ (val_main_v29 (F := F) x2 x3) shapeCasts_S2048x1_S2048)

/-- The zero array the hidden mixture starts from. -/
def zeroH : FVec F S2048x1024 .f32 :=
  broadcastInDim S2048x1024 ![] bcast_S_S2048x1024 (constant S_ .f32 0x00000000#32)

/-- The zero array the residual mixture starts from. -/
def zeroR : FVec F S2048x768 .f32 :=
  broadcastInDim S2048x768 ![] bcast_S_S2048x768 (constant S_ .f32 0x00000000#32)

/-- The reference's hidden mixture is the chain of its eight terms. -/
theorem hid_eq (x2 : FVec F S2048x2 .f32) (x3 : IVec S2048x2 32) (x4 : FVec F S4x2048x1024 .f32)
    (x5 : FVec F S4x1024x1024 .f32) (x6 : FVec F S4x1024 .f32) :
    val_main_v242 (F := F) x2 x3 x4 x5 x6 =
      addf (addf (addf (addf (addf (addf (addf (addf (zeroH)
      (termH (extractStridedSlice S1x2048x1024 ![0, 0, 0] (val_main_v0 (F := F) x4) slices_S4x2048x1024_S1x2048x1024_0_0_0)
        (extractStridedSlice S1x1024x1024 ![0, 0, 0] x5 slices_S4x1024x1024_S1x1024x1024_0_0_0)
        (extractStridedSlice S1x1024 ![0, 0] x6 slices_S4x1024_S1x1024_0_0)
        (mask 128#32) (sel 0#32 (idx0 x3)) (wt0 x2 x3)))
      (termH (extractStridedSlice S1x2048x1024 ![1, 0, 0] (val_main_v0 (F := F) x4) slices_S4x2048x1024_S1x2048x1024_1_0_0)
        (extractStridedSlice S1x1024x1024 ![1, 0, 0] x5 slices_S4x1024x1024_S1x1024x1024_1_0_0)
        (extractStridedSlice S1x1024 ![1, 0] x6 slices_S4x1024_S1x1024_1_0)
        (mask 256#32) (sel 1#32 (idx0 x3)) (wt0 x2 x3)))
      (termH (extractStridedSlice S1x2048x1024 ![2, 0, 0] (val_main_v0 (F := F) x4) slices_S4x2048x1024_S1x2048x1024_2_0_0)
        (extractStridedSlice S1x1024x1024 ![2, 0, 0] x5 slices_S4x1024x1024_S1x1024x1024_2_0_0)
        (extractStridedSlice S1x1024 ![2, 0] x6 slices_S4x1024_S1x1024_2_0)
        (mask 384#32) (sel 2#32 (idx0 x3)) (wt0 x2 x3)))
      (termH (extractStridedSlice S1x2048x1024 ![3, 0, 0] (val_main_v0 (F := F) x4) slices_S4x2048x1024_S1x2048x1024_3_0_0)
        (extractStridedSlice S1x1024x1024 ![3, 0, 0] x5 slices_S4x1024x1024_S1x1024x1024_3_0_0)
        (extractStridedSlice S1x1024 ![3, 0] x6 slices_S4x1024_S1x1024_3_0)
        (mask 512#32) (sel 3#32 (idx0 x3)) (wt0 x2 x3)))
      (termH (extractStridedSlice S1x2048x1024 ![0, 0, 0] (val_main_v0 (F := F) x4) slices_S4x2048x1024_S1x2048x1024_0_0_0)
        (extractStridedSlice S1x1024x1024 ![0, 0, 0] x5 slices_S4x1024x1024_S1x1024x1024_0_0_0)
        (extractStridedSlice S1x1024 ![0, 0] x6 slices_S4x1024_S1x1024_0_0)
        (mask 128#32) (sel 0#32 (idx1 x3)) (wt1 x2 x3)))
      (termH (extractStridedSlice S1x2048x1024 ![1, 0, 0] (val_main_v0 (F := F) x4) slices_S4x2048x1024_S1x2048x1024_1_0_0)
        (extractStridedSlice S1x1024x1024 ![1, 0, 0] x5 slices_S4x1024x1024_S1x1024x1024_1_0_0)
        (extractStridedSlice S1x1024 ![1, 0] x6 slices_S4x1024_S1x1024_1_0)
        (mask 256#32) (sel 1#32 (idx1 x3)) (wt1 x2 x3)))
      (termH (extractStridedSlice S1x2048x1024 ![2, 0, 0] (val_main_v0 (F := F) x4) slices_S4x2048x1024_S1x2048x1024_2_0_0)
        (extractStridedSlice S1x1024x1024 ![2, 0, 0] x5 slices_S4x1024x1024_S1x1024x1024_2_0_0)
        (extractStridedSlice S1x1024 ![2, 0] x6 slices_S4x1024_S1x1024_2_0)
        (mask 384#32) (sel 2#32 (idx1 x3)) (wt1 x2 x3)))
      (termH (extractStridedSlice S1x2048x1024 ![3, 0, 0] (val_main_v0 (F := F) x4) slices_S4x2048x1024_S1x2048x1024_3_0_0)
        (extractStridedSlice S1x1024x1024 ![3, 0, 0] x5 slices_S4x1024x1024_S1x1024x1024_3_0_0)
        (extractStridedSlice S1x1024 ![3, 0] x6 slices_S4x1024_S1x1024_3_0)
        (mask 512#32) (sel 3#32 (idx1 x3)) (wt1 x2 x3)) := rfl

/-- The reference's residual mixture is the chain of its eight terms. -/
theorem res_eq (x2 : FVec F S2048x2 .f32) (x3 : IVec S2048x2 32) (x4 : FVec F S4x2048x1024 .f32)
    (x9 : FVec F S4x768x1024 .f32) (x10 : FVec F S4x768 .f32) :
    val_main_v503 (F := F) x2 x3 x4 x9 x10 =
      addf (addf (addf (addf (addf (addf (addf (addf (zeroR)
      (termR (extractStridedSlice S1x2048x1024 ![0, 0, 0] (val_main_v0 (F := F) x4) slices_S4x2048x1024_S1x2048x1024_0_0_0)
        (extractStridedSlice S1x768x1024 ![0, 0, 0] x9 slices_S4x768x1024_S1x768x1024_0_0_0)
        (extractStridedSlice S1x768 ![0, 0] x10 slices_S4x768_S1x768_0_0)
        (mask 128#32) (sel 0#32 (idx0 x3)) (wt0 x2 x3)))
      (termR (extractStridedSlice S1x2048x1024 ![1, 0, 0] (val_main_v0 (F := F) x4) slices_S4x2048x1024_S1x2048x1024_1_0_0)
        (extractStridedSlice S1x768x1024 ![1, 0, 0] x9 slices_S4x768x1024_S1x768x1024_1_0_0)
        (extractStridedSlice S1x768 ![1, 0] x10 slices_S4x768_S1x768_1_0)
        (mask 256#32) (sel 1#32 (idx0 x3)) (wt0 x2 x3)))
      (termR (extractStridedSlice S1x2048x1024 ![2, 0, 0] (val_main_v0 (F := F) x4) slices_S4x2048x1024_S1x2048x1024_2_0_0)
        (extractStridedSlice S1x768x1024 ![2, 0, 0] x9 slices_S4x768x1024_S1x768x1024_2_0_0)
        (extractStridedSlice S1x768 ![2, 0] x10 slices_S4x768_S1x768_2_0)
        (mask 384#32) (sel 2#32 (idx0 x3)) (wt0 x2 x3)))
      (termR (extractStridedSlice S1x2048x1024 ![3, 0, 0] (val_main_v0 (F := F) x4) slices_S4x2048x1024_S1x2048x1024_3_0_0)
        (extractStridedSlice S1x768x1024 ![3, 0, 0] x9 slices_S4x768x1024_S1x768x1024_3_0_0)
        (extractStridedSlice S1x768 ![3, 0] x10 slices_S4x768_S1x768_3_0)
        (mask 512#32) (sel 3#32 (idx0 x3)) (wt0 x2 x3)))
      (termR (extractStridedSlice S1x2048x1024 ![0, 0, 0] (val_main_v0 (F := F) x4) slices_S4x2048x1024_S1x2048x1024_0_0_0)
        (extractStridedSlice S1x768x1024 ![0, 0, 0] x9 slices_S4x768x1024_S1x768x1024_0_0_0)
        (extractStridedSlice S1x768 ![0, 0] x10 slices_S4x768_S1x768_0_0)
        (mask 128#32) (sel 0#32 (idx1 x3)) (wt1 x2 x3)))
      (termR (extractStridedSlice S1x2048x1024 ![1, 0, 0] (val_main_v0 (F := F) x4) slices_S4x2048x1024_S1x2048x1024_1_0_0)
        (extractStridedSlice S1x768x1024 ![1, 0, 0] x9 slices_S4x768x1024_S1x768x1024_1_0_0)
        (extractStridedSlice S1x768 ![1, 0] x10 slices_S4x768_S1x768_1_0)
        (mask 256#32) (sel 1#32 (idx1 x3)) (wt1 x2 x3)))
      (termR (extractStridedSlice S1x2048x1024 ![2, 0, 0] (val_main_v0 (F := F) x4) slices_S4x2048x1024_S1x2048x1024_2_0_0)
        (extractStridedSlice S1x768x1024 ![2, 0, 0] x9 slices_S4x768x1024_S1x768x1024_2_0_0)
        (extractStridedSlice S1x768 ![2, 0] x10 slices_S4x768_S1x768_2_0)
        (mask 384#32) (sel 2#32 (idx1 x3)) (wt1 x2 x3)))
      (termR (extractStridedSlice S1x2048x1024 ![3, 0, 0] (val_main_v0 (F := F) x4) slices_S4x2048x1024_S1x2048x1024_3_0_0)
        (extractStridedSlice S1x768x1024 ![3, 0, 0] x9 slices_S4x768x1024_S1x768x1024_3_0_0)
        (extractStridedSlice S1x768 ![3, 0] x10 slices_S4x768_S1x768_3_0)
        (mask 512#32) (sel 3#32 (idx1 x3)) (wt1 x2 x3)) := rfl

/-- The comparison of two small numbers as words, as a number. -/
theorem flag_slt (q n : ℕ) (hq : q < 1024) (hn : n < 1024) :
    Row.flag (IntOp.cmpi .slt (BitVec.ofNat 32 q) (BitVec.ofNat 32 n)) = if q < n then 1 else 0 := by
  have h : (BitVec.ofNat 32 q).slt (BitVec.ofNat 32 n) = decide (q < n) := by
    have toInt : ∀ k : ℕ, k < 1024 → (BitVec.ofNat 32 k).toInt = k := fun k hk => by
      have hk' : (BitVec.ofNat 32 k).toNat = k := by
        rw [BitVec.toNat_ofNat]
        omega
      rw [BitVec.toInt_eq_toNat_of_lt (by omega), hk']
    rw [BitVec.slt_eq_decide, toInt q hq, toInt n hn]
    exact decide_eq_decide.2 Int.ofNat_lt
  unfold Row.flag
  simp only [IntOp.cmpi, h]
  by_cases hqn : q < n <;> simp [hqn]

/-- The built mask is expert `e`'s mask. -/
theorem mask_apply (e : Fin 4) (q : Fin 1024) : mask (F := Ideal) (BitVec.ofNat 32 (Row.size e)) (ix1 q) = Row.maskAt e q := by
  have hs := Row.size_le e
  pointwise [mask]
  simp only [Row.uitofp_flag]
  unfold Row.maskAt
  split_ifs with h h' h'
  all_goals
    rw [flag_slt _ _ (by omega) (by omega)]
    first
    | exact if_pos (by omega)
    | exact if_neg (by omega)

/-- A term of the hidden mixture at an index, when its mask is expert `e`'s. -/
theorem termH_apply (e : Fin 4) (X : FVec Ideal S1x2048x1024 .f32) (W : FVec Ideal S1x1024x1024 .f32)
    (b : FVec Ideal S1x1024 .f32) (mk : FVec Ideal S1024 .f32) (hmk : ∀ q, mk (ix1 q) = Row.maskAt e q)
    (sl : IVec S2048 1) (w : FVec Ideal S2048 .f32) (r : Fin 2048) (j : Fin 1024) :
    termH X W b mk sl w (ix2 r j) =
      if sl (ix1 r) = 1#1
      then (Row.part e (fun k => X (ix3 0 r k)) (fun k => W (ix3 0 j k)) + b (ix2 0 j)) * w (ix1 r) else 0 := by
  pointwise [termH]
  simp only [hmk]
  rw [Row.masked_eq_part e (fun k => X (ix3 0 r k)) (fun k => W (ix3 0 j k))]
  refine congrArg (Scalar.select (sl (ix1 r)) _) ?_
  exact Ideal.ofBits_zero_f32

/-- A term of the residual mixture at an index, when its mask is expert `e`'s. -/
theorem termR_apply (e : Fin 4) (X : FVec Ideal S1x2048x1024 .f32) (W : FVec Ideal S1x768x1024 .f32)
    (b : FVec Ideal S1x768 .f32) (mk : FVec Ideal S1024 .f32) (hmk : ∀ q, mk (ix1 q) = Row.maskAt e q)
    (sl : IVec S2048 1) (w : FVec Ideal S2048 .f32) (r : Fin 2048) (j : Fin 768) :
    termR X W b mk sl w (ix2 r j) =
      if sl (ix1 r) = 1#1
      then (Row.part e (fun k => X (ix3 0 r k)) (fun k => W (ix3 0 j k)) + b (ix2 0 j)) * w (ix1 r) else 0 := by
  pointwise [termR]
  simp only [hmk]
  rw [Row.masked_eq_part e (fun k => X (ix3 0 r k)) (fun k => W (ix3 0 j k))]
  refine congrArg (Scalar.select (sl (ix1 r)) _) ?_
  exact Ideal.ofBits_zero_f32

/-- The normalised weight of the first slot, at a row. -/
theorem wt0_apply (x2 : FVec Ideal S2048x2 .f32) (x3 : IVec S2048x2 32) (r : Fin 2048) :
    wt0 x2 x3 (ix1 r) = Row.share (fun k => x2 (ix2 r k)) (fun k => x3 (ix2 r k)) 0 := by
  pointwise [wt0, val_main_v29, val_main_call1_v1, val_main_call1_v0, val_main_cst_6, val_main_v28, val_main_v26, val_main_v27, val_main_cst_5, val_main_v25, val_main_v24, val_main_v23, val_main_v22, val_main_v21, val_main_c_3, val_main_cst_4]
  simp only [Row.uitofp_flag]
  have h1 : id (constant (F := Ideal) S_ .f32 0x3F800000#32) ix0 = (1 : EReal) := Ideal.ofBits_one_f32
  rw [h1]
  rfl

/-- The normalised weight of the second slot, at a row. -/
theorem wt1_apply (x2 : FVec Ideal S2048x2 .f32) (x3 : IVec S2048x2 32) (r : Fin 2048) :
    wt1 x2 x3 (ix1 r) = Row.share (fun k => x2 (ix2 r k)) (fun k => x3 (ix2 r k)) 1 := by
  pointwise [wt1, val_main_v29, val_main_call1_v1, val_main_call1_v0, val_main_cst_6, val_main_v28, val_main_v26, val_main_v27, val_main_cst_5, val_main_v25, val_main_v24, val_main_v23, val_main_v22, val_main_v21, val_main_c_3, val_main_cst_4]
  simp only [Row.uitofp_flag]
  have h1 : id (constant (F := Ideal) S_ .f32 0x3F800000#32) ix0 = (1 : EReal) := Ideal.ofBits_one_f32
  rw [h1]
  rfl

/-- Replacing non-numbers and infinities changes nothing in finite activations. -/
theorem clean_apply (x4 : FVec Ideal S4x2048x1024 .f32) (h4 : ∀ i, Row.IsReal (x4 i)) (e : Fin 4) (r : Fin 2048) (k : Fin 1024) :
    val_main_v0 (F := Ideal) x4 (ix3 e r k) = x4 (ix3 e r k) := by
  obtain ⟨a, ha⟩ := h4 (ix3 e r k)
  have h1 : Ideal.ofBits .f32 2139095040#32 = ⊤ := by simp [Ideal.ofBits, Ideal.ieee]
  have h2 : Ideal.ofBits .f32 4286578688#32 = ⊥ := by simp [Ideal.ofBits, Ideal.ieee]
  pointwise [val_main_v0, val_main_call0_v7, val_main_call0_v6, val_main_call0_cst_1, val_main_call0_call2_v0, val_main_call0_cst_2, val_main_call0_v5, val_main_call0_v4, val_main_call0_v3, val_main_call0_cst, val_main_call0_call1_v0, val_main_call0_cst_0, val_main_call0_v2, val_main_call0_v0, val_main_call0_call0_v0, val_main_call0_v1, val_main_cst]
  rw [h1, h2, ha]
  simp

set_option maxHeartbeats 4000000 in
/-- The hidden mixture at an index, on finite activations: slot by slot, expert by expert. -/
theorem hid_apply (x2 : FVec Ideal S2048x2 .f32) (x3 : IVec S2048x2 32) (x4 : FVec Ideal S4x2048x1024 .f32)
    (x5 : FVec Ideal S4x1024x1024 .f32) (x6 : FVec Ideal S4x1024 .f32) (h4 : ∀ i, Row.IsReal (x4 i)) (r : Fin 2048)
    (j : Fin 1024) :
    val_main_v242 (F := Ideal) x2 x3 x4 x5 x6 (ix2 r j) =
      Row.mixBySlot (fun k => x2 (ix2 r k)) (fun k => x3 (ix2 r k))
        (fun e => Row.part e (fun k => x4 (ix3 e r k)) (fun k => x5 (ix3 e j k))) (fun e => x6 (ix2 e j)) := by
  have t0 := fun X W b sl w => termH_apply 0 X W b (mask 128#32) (mask_apply 0) sl w r j
  have t1 := fun X W b sl w => termH_apply 1 X W b (mask 256#32) (mask_apply 1) sl w r j
  have t2 := fun X W b sl w => termH_apply 2 X W b (mask 384#32) (mask_apply 2) sl w r j
  have t3 := fun X W b sl w => termH_apply 3 X W b (mask 512#32) (mask_apply 3) sl w r j
  rw [hid_eq]
  pointwise []
  simp only [t0, t1, t2, t3]
  pointwise [sel, idx0, idx1]
  simp only [wt0_apply, wt1_apply, clean_apply _ h4]
  have hz : zeroH (F := Ideal) (ix2 r j) = 0 := Ideal.ofBits_zero_f32
  rw [hz, zero_add]
  rfl

set_option maxHeartbeats 4000000 in
/-- The residual mixture at an index, on finite activations: slot by slot, expert by expert. -/
theorem res_apply (x2 : FVec Ideal S2048x2 .f32) (x3 : IVec S2048x2 32) (x4 : FVec Ideal S4x2048x1024 .f32)
    (x9 : FVec Ideal S4x768x1024 .f32) (x10 : FVec Ideal S4x768 .f32) (h4 : ∀ i, Row.IsReal (x4 i)) (r : Fin 2048)
    (j : Fin 768) :
    val_main_v503 (F := Ideal) x2 x3 x4 x9 x10 (ix2 r j) =
      Row.mixBySlot (fun k => x2 (ix2 r k)) (fun k => x3 (ix2 r k))
        (fun e => Row.part e (fun k => x4 (ix3 e r k)) (fun k => x9 (ix3 e j k))) (fun e => x10 (ix2 e j)) := by
  have t0 := fun X W b sl w => termR_apply 0 X W b (mask 128#32) (mask_apply 0) sl w r j
  have t1 := fun X W b sl w => termR_apply 1 X W b (mask 256#32) (mask_apply 1) sl w r j
  have t2 := fun X W b sl w => termR_apply 2 X W b (mask 384#32) (mask_apply 2) sl w r j
  have t3 := fun X W b sl w => termR_apply 3 X W b (mask 512#32) (mask_apply 3) sl w r j
  rw [res_eq]
  pointwise []
  simp only [t0, t1, t2, t3]
  pointwise [sel, idx0, idx1]
  simp only [wt0_apply, wt1_apply, clean_apply _ h4]
  have hz : zeroR (F := Ideal) (ix2 r j) = 0 := Ideal.ofBits_zero_f32
  rw [hz, zero_add]
  rfl

set_option maxHeartbeats 4000000 in
/-- The reference's output row over its two mixtures. -/
theorem out_apply (x2 : FVec Ideal S2048x2 .f32) (x3 : IVec S2048x2 32) (x4 : FVec Ideal S4x2048x1024 .f32)
    (x5 : FVec Ideal S4x1024x1024 .f32) (x6 : FVec Ideal S4x1024 .f32) (x7 : FVec Ideal S768x1024 .f32)
    (x8 : FVec Ideal S768 .f32) (x9 : FVec Ideal S4x768x1024 .f32) (x10 : FVec Ideal S4x768 .f32)
    (x11 : FVec Ideal S768 .f32) (r : Fin 2048) (j : Fin 768) :
    val_main_v517 (F := Ideal) x2 x3 x4 x5 x6 x7 x8 x9 x10 x11 (ix2 r j) =
      Row.row (fun x => val_main_v242 (F := Ideal) x2 x3 x4 x5 x6 (ix2 r x))
        (fun y => val_main_v503 (F := Ideal) x2 x3 x4 x9 x10 (ix2 r y)) (fun y x => x7 (ix2 y x)) (fun y => x8 (ix1 y))
        (fun y => x11 (ix1 y)) j := by
  unfold val_main_v517 val_main_v514 val_main_v513 val_main_v512 val_main_v511 val_main_v509 val_main_v507 val_main_v506 val_main_v505 val_main_v504 val_main_v260 val_main_v257 val_main_v255 val_main_v254 val_main_v252 val_main_v250 val_main_v249 val_main_v247 val_main_v246 val_main_v244 val_main_v243
  generalize val_main_v242 (F := Ideal) x2 x3 x4 x5 x6 = hid
  generalize val_main_v503 (F := Ideal) x2 x3 x4 x9 x10 = res
  pointwise [val_main_v516, val_main_v515, val_main_v510, val_main_v508, val_main_v256, val_main_v259, val_main_v258, val_main_v253, val_main_v251, val_main_v248, val_main_v245, val_main_cst_32, val_main_cst_33, val_main_cst_34, val_main_cst_35, val_main_cst_70, val_main_cst_71, val_main_cst_72]
  have hg : ∀ h : EReal, h * (Ideal.ofBits FTy.f32 1056964608#32 * (1 + Ideal.tanh (Ideal.ofBits FTy.f32 1061962282#32
      * (h + Ideal.ofBits FTy.f32 1027024659#32 * (h * h * h))))) = Row.gelu h := fun h => by
    rw [mul_assoc h h h]
    rfl
  simp only [hg]
  rfl

end Cert.ReferenceIdeal.Mix
-- ==== Proof.Equation.lean ====
module

public import proofs.«01_k».proof.Defs
public import proofs.«01_k».proof.Proof.KVal
public import proofs.«01_k».proof.Proof.Ref

/-! The precondition read as finiteness of five arguments, and the equation: on such arguments the array the kernel
leaves is the array the reference computes. -/

@[expose] public section

set_option maxRecDepth 16384

noncomputable section

open Idealize.ShloMosaic Idealize.ShloMosaic.TcCoe Idealize.SL.Sem

namespace Cert.Equation

/-- The shape facts the precondition's text takes. -/
theorem pre_facts : Cert.Pre_finite.Facts where
  bcast_S_S4x2048x1024 := by decide
  bcast_S_S4x1024x1024 := by decide
  bcast_S_S4x1024 := by decide
  bcast_S_S4x768x1024 := by decide
  bcast_S_S4x768 := by decide

/-- The word the precondition compares with is plus infinity. -/
theorem inf_eq : Ideal.ofBits .f32 0x7F800000#32 = ⊤ := by simp [Ideal.ofBits, Ideal.ieee]

/-- An absolute value below plus infinity is that of a real number. -/
theorem isReal_of_lt (x : EReal) (h : Ideal.cmp .olt (max x (-x)) (Ideal.ofBits .f32 0x7F800000#32) = 1#1) : Row.IsReal x := by
  rw [inf_eq] at h
  have hlt : max x (-x) < ⊤ := by
    by_contra hn
    simp [Ideal.cmp, hn] at h
  induction x using EReal.rec with
  | bot => simp at hlt
  | top => simp at hlt
  | coe a => exact ⟨a, rfl⟩

/-- The precondition of the kernel's memory: the activations and the experts' weights and biases are finite. -/
theorem finite (m : (ℓ : Loc KernelIdeal.nD KernelIdeal.τ KernelIdeal.sig) → Buf (Elt Ideal) ℓ)
    (h : Pre_KernelIdeal_finite (hPre_finite := pre_facts) m) (c : Dev KernelIdeal.nD) :
    (∀ i, Row.IsReal (m ((c : Thread KernelIdeal.nD KernelIdeal.τ).loc KernelIdeal.main_arg4) i))
    ∧ (∀ i, Row.IsReal (m ((c : Thread KernelIdeal.nD KernelIdeal.τ).loc KernelIdeal.main_arg5) i))
    ∧ (∀ i, Row.IsReal (m ((c : Thread KernelIdeal.nD KernelIdeal.τ).loc KernelIdeal.main_arg6) i))
    ∧ (∀ i, Row.IsReal (m ((c : Thread KernelIdeal.nD KernelIdeal.τ).loc KernelIdeal.main_arg9) i))
    ∧ (∀ i, Row.IsReal (m ((c : Thread KernelIdeal.nD KernelIdeal.τ).loc KernelIdeal.main_arg10) i)) := by
  obtain ⟨h4, h5, h6, h9, h10⟩ := h c
  exact ⟨fun i => isReal_of_lt _ (congrFun h4 i), fun i => isReal_of_lt _ (congrFun h5 i),
    fun i => isReal_of_lt _ (congrFun h6 i), fun i => isReal_of_lt _ (congrFun h9 i),
    fun i => isReal_of_lt _ (congrFun h10 i)⟩

/-- On finite activations, expert weights and expert biases, the reference's array is the kernel's. -/
theorem equation (m : (ℓ : Loc KernelIdeal.nD KernelIdeal.τ KernelIdeal.sig) → Buf (Elt Ideal) ℓ)
    (h : Pre_KernelIdeal_finite (hPre_finite := pre_facts) m) (c : Dev KernelIdeal.nD) :
    ReferenceIdeal.Read.val_main_v517 (F := Ideal)
      (m ((c : Thread KernelIdeal.nD KernelIdeal.τ).loc KernelIdeal.main_arg2))
      (m ((c : Thread KernelIdeal.nD KernelIdeal.τ).loc KernelIdeal.main_arg3))
      (m ((c : Thread KernelIdeal.nD KernelIdeal.τ).loc KernelIdeal.main_arg4))
      (m ((c : Thread KernelIdeal.nD KernelIdeal.τ).loc KernelIdeal.main_arg5))
      (m ((c : Thread KernelIdeal.nD KernelIdeal.τ).loc KernelIdeal.main_arg6))
      (m ((c : Thread KernelIdeal.nD KernelIdeal.τ).loc KernelIdeal.main_arg7))
      (m ((c : Thread KernelIdeal.nD KernelIdeal.τ).loc KernelIdeal.main_arg8))
      (m ((c : Thread KernelIdeal.nD KernelIdeal.τ).loc KernelIdeal.main_arg9))
      (m ((c : Thread KernelIdeal.nD KernelIdeal.τ).loc KernelIdeal.main_arg10))
      (m ((c : Thread KernelIdeal.nD KernelIdeal.τ).loc KernelIdeal.main_arg11))
      = KernelIdeal.Value.G10 m c := by
  obtain ⟨h4, h5, h6, h9, h10⟩ := finite m h c
  funext i
  obtain ⟨R, j, rfl⟩ : ∃ (R : Fin 2048) (j : Fin 768), i = ix2 R j := ⟨i 0, i 1, by funext a; fin_cases a <;> rfl⟩
  rw [KernelIdeal.KVal.value m c R j, ReferenceIdeal.Mix.out_apply]
  have hh := fun x => (ReferenceIdeal.Mix.hid_apply (m ((c : Thread KernelIdeal.nD KernelIdeal.τ).loc KernelIdeal.main_arg2))
      (m ((c : Thread KernelIdeal.nD KernelIdeal.τ).loc KernelIdeal.main_arg3)) _
      (m ((c : Thread KernelIdeal.nD KernelIdeal.τ).loc KernelIdeal.main_arg5))
      (m ((c : Thread KernelIdeal.nD KernelIdeal.τ).loc KernelIdeal.main_arg6)) h4 R x).trans
    (Row.mixBySlot_eq _ _ _ _ (fun _ => Row.IsReal.part (fun _ => h4 _) fun _ => h5 _) fun _ => h6 _)
  have hr := fun x => (ReferenceIdeal.Mix.res_apply (m ((c : Thread KernelIdeal.nD KernelIdeal.τ).loc KernelIdeal.main_arg2))
      (m ((c : Thread KernelIdeal.nD KernelIdeal.τ).loc KernelIdeal.main_arg3)) _
      (m ((c : Thread KernelIdeal.nD KernelIdeal.τ).loc KernelIdeal.main_arg9))
      (m ((c : Thread KernelIdeal.nD KernelIdeal.τ).loc KernelIdeal.main_arg10)) h4 R x).trans
    (Row.mixBySlot_eq _ _ _ _ (fun _ => Row.IsReal.part (fun _ => h4 _) fun _ => h9 _) fun _ => h10 _)
  simp only [hh, hr]

end Cert.Equation
-- ==== Proof.lean ====
/- The assembly of `Cert.Claim`: the kernel's frames are generated, the reference's is its run weakened, the program at
   exact arithmetic preserves the printed one by definition, and the value claim sets the kernel's run beside the
   reference's and closes the equation of the two arrays with Proof/Equation.lean. -/
module

public import proofs.«01_k».proof.Defs
public import proofs.«01_k».proof.Proof.Equation
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from every memory, leaves its arguments and ends quiescent. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, with finite activations, expert weights and expert biases, the kernel
and the reference end with the same array. -/
theorem algebraic_KernelIdeal_ReferenceIdeal :
    algebraic_KernelIdeal_ReferenceIdeal_pre_finite (hPre_finite := Cert.Equation.pre_facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v517_eq]
  repeat rw [StableHlo.launchContents_devRef]
  obtain ⟨_, _, e2, e3, e4, e5, e6, e7, e8, e9, e10, e11⟩ := hagree c
  rw [e2, e3, e4, e5, e6, e7, e8, e9, e10, e11]
  exact Cert.Equation.equation m hpre c

/-- Every claim of this certificate. -/
theorem claim : Cert.Claim := ⟨Cert.Kernel.Gen.facts, Cert.KernelIdeal.Gen.facts, Cert.ReferenceIdeal.Gen.facts,
  Cert.Equation.pre_facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  (trivial : preserves_Kernel_KernelIdeal), algebraic_KernelIdeal_ReferenceIdeal⟩

end Cert.Proof

end
